-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_feat [hPre_finite_feat : Cert.Pre_finite_feat.Facts] (m : (ℓ : Loc Cert.KernelIdeal.nD Cert.KernelIdeal.τ Cert.KernelIdeal.sig) → Buf (Elt Ideal) ℓ) : Prop :=
  ∀ c : Dev Cert.KernelIdeal.nD,
    (Cert.Pre_finite_feat.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_feat [hPre_finite_feat : Cert.Pre_finite_feat.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_feat.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_feat [hKernelIdeal : Cert.KernelIdeal.Facts] [hPre_finite_feat : Cert.Pre_finite_feat.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_feat m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_feat [hReferenceIdeal : Cert.ReferenceIdeal.Facts] [hPre_finite_feat : Cert.Pre_finite_feat.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_feat m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_hw" .f32 0x37A72F05#32 ((50176⁻¹ : ℝ) : EReal)

def algebraic_KernelIdeal_ReferenceIdeal_pre_finite_feat [hKernelIdeal : Cert.KernelIdeal.Facts] [hReferenceIdeal : Cert.ReferenceIdeal.Facts] [hPre_finite_feat : Cert.Pre_finite_feat.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_feat m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_feat : Cert.Pre_finite_feat.Facts),
    quiescent_Kernel (hKernel := hKernel)
    ∧ quiescent_KernelIdeal (hKernelIdeal := hKernelIdeal)
    ∧ quiescent_KernelIdeal_pre_finite_feat (hKernelIdeal := hKernelIdeal) (hPre_finite_feat := hPre_finite_feat)
    ∧ quiescent_ReferenceIdeal (hReferenceIdeal := hReferenceIdeal)
    ∧ quiescent_ReferenceIdeal_pre_finite_feat (hReferenceIdeal := hReferenceIdeal) (hPre_finite_feat := hPre_finite_feat)
    ∧ preserves_Kernel_KernelIdeal
    ∧ algebraic_KernelIdeal_ReferenceIdeal_pre_finite_feat (hKernelIdeal := hKernelIdeal) (hReferenceIdeal := hReferenceIdeal) (hPre_finite_feat := hPre_finite_feat)
-- ==== Pre_finite_feat.lean ====
abbrev S4x384x224x224 : Shape := ⟨4, ![4, 384, 224, 224]⟩
abbrev S384x384 : Shape := ⟨2, ![384, 384]⟩
abbrev S384 : Shape := ⟨1, ![384]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel

variable [Facts]

def fn {F : FTy → Type} [FloatOps F] (main_arg0 : FVec F S4x384x224x224 .f32) (main_arg1 : FVec F S384x384 .f32) (main_arg2 : FVec F S384 .f32) (main_arg3 : FVec F S384x384 .f32) (main_arg4 : FVec F S384 .f32) : IVec S_ 1 :=
  let main_v0 : FVec F S4x384x224x224 .f32 := Host.absf main_arg0
  let main_cst : FVec F S_ .f32 := constant S_ .f32 0x7F800000#32
  let main_v1 : FVec F S4x384x224x224 .f32 := broadcastInDim S4x384x224x224 ![] bcast_S_S4x384x224x224 main_cst
  let main_v2 : IVec S4x384x224x224 1 := cmpf .olt main_v0 main_v1
  let main_c : IVec S_ 1 := constantI S_ 1 1#1
  let main_v3 : IVec S_ 1 := (fun x v => Host.reduce IntOp.andi x v reducesTo_S4x384x224x224_S_d0_1_2_3 h_S_) main_v2 main_c
  main_v3
-- ==== Kernel.lean ====
abbrev S4x384x224x224 : Shape := ⟨4, ![4, 384, 224, 224]⟩
abbrev S384x384 : Shape := ⟨2, ![384, 384]⟩
abbrev S384 : Shape := ⟨1, ![384]⟩
abbrev S4x224x224x384 : Shape := ⟨4, ![4, 224, 224, 384]⟩
abbrev S4x384 : Shape := ⟨2, ![4, 384]⟩
abbrev S1x28x224x384 : Shape := ⟨4, ![1, 28, 224, 384]⟩
abbrev S1x384 : Shape := ⟨2, ![1, 384]⟩
abbrev S28x224x384 : Shape := ⟨3, ![28, 224, 384]⟩
abbrev S384x1 : Shape := ⟨2, ![384, 1]⟩
abbrev S1x1x384 : Shape := ⟨3, ![1, 1, 384]⟩
abbrev S4x384x1x1 : Shape := ⟨4, ![4, 384, 1, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x384x224x224, .f32⟩
  | .hbm, ⟨1, _⟩ => ⟨S384x384, .f32⟩
  | .hbm, ⟨2, _⟩ => ⟨S384, .f32⟩
  | .hbm, ⟨3, _⟩ => ⟨S384x384, .f32⟩
  | .hbm, ⟨4, _⟩ => ⟨S384, .f32⟩
  | .hbm, ⟨5, _⟩ => ⟨S4x224x224x384, .f32⟩
  | .hbm, ⟨6, _⟩ => ⟨S4x224x224x384, .f32⟩
  | .hbm, ⟨7, _⟩ => ⟨S4x224x224x384, .f32⟩
  | .hbm, ⟨8, _⟩ => ⟨S4x384, .f32⟩
  | .hbm, ⟨9, _⟩ => ⟨S4x384, .f32⟩
  | .hbm, ⟨10, _⟩ => ⟨S4x384x224x224, .f32⟩
  | .hbm, ⟨11, _⟩ => ⟨S4x384x224x224, .f32⟩
  | .hbm, ⟨12, _⟩ => ⟨S4x384x1x1, .f32⟩
  | .local _ .vmem, ⟨0, _⟩ => ⟨S384x384, .f32⟩
  | .local _ .vmem, ⟨1, _⟩ => ⟨S384, .f32⟩
  | .local _ .vmem, ⟨2, _⟩ => ⟨S384x384, .f32⟩
  | .local _ .vmem, ⟨3, _⟩ => ⟨S384, .f32⟩
  | .local _ .vmem, ⟨4, _⟩ => ⟨S1x28x224x384, .f32⟩
  | .local _ .vmem, ⟨5, _⟩ => ⟨S1x28x224x384, .f32⟩
  | .local _ .vmem, ⟨6, _⟩ => ⟨S1x28x224x384, .f32⟩
  | .local _ .vmem, ⟨7, _⟩ => ⟨S1x28x224x384, .f32⟩
  | .local _ .vmem, ⟨8, _⟩ => ⟨S1x28x224x384, .f32⟩
  | .local _ .vmem, ⟨9, _⟩ => ⟨S1x28x224x384, .f32⟩
  | .local _ .vmem, ⟨10, _⟩ => ⟨S4x384, .f32⟩
  | .local _ .vmem, ⟨11, _⟩ => ⟨S4x384, .f32⟩
  | .local _ .vmem, ⟨12, _⟩ => ⟨S1x384, .f32⟩
  | .local _ .vmem, ⟨13, _⟩ => ⟨S1x384, .f32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c8_i32_3 : BitVec 32 := 8#32
  let v8 : BitVec 1 := Scalar.cmpi .eq arg1 c8_i32_3
  let v9 : BitVec 32 := Scalar.extui v8
  let c0_i32_4 : BitVec 32 := 0#32
  let v10 : BitVec 1 := Scalar.cmpi .ne v9 c0_i32_4
  v10

def k0_off1 (i : grid0.Coords) : Fin 2 → Nat :=
  let arg0 : BitVec 32 := BitVec.ofNat 32 (i 0).val
  let v31 : Index := Scalar.indexCast arg0
  let c0_17 : Index := 0#32
  ![v31.toNat, 0]
def k0_cond4 (i : grid0.Coords) : BitVec 1 :=
  let arg1 : BitVec 32 := BitVec.ofNat 32 (i 1).val
  let c8_i32_5 : BitVec 32 := 8#32
  let v11 : BitVec 1 := Scalar.cmpi .sge arg1 c8_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let v2 : BitVec 32 := Scalar.select v0 arg1 v1
  let c0_i32 : BitVec 32 := 0#32
  let c0_i32_1 : BitVec 32 := 0#32
  let c0_i32_2 : BitVec 32 := 0#32
  ![arg0.toNat, v2.toNat, c0_i32.toNat, c0_i32_1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.subi arg1 c8_i32_0
  let c0_i32 : BitVec 32 := 0#32
  let v2 : BitVec 32 := Scalar.select v0 c0_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x28x224x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x28x224x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x28x224x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "inv_hw" => some ((50176⁻¹ : ℝ) : EReal)
  | _ => none
-- ==== ReferenceIdeal.lean ====
abbrev S4x384x224x224 : Shape := ⟨4, ![4, 384, 224, 224]⟩
abbrev S384x384 : Shape := ⟨2, ![384, 384]⟩
abbrev S384 : Shape := ⟨1, ![384]⟩
abbrev S_ : Shape := ⟨0, ![]⟩
abbrev S4x384 : Shape := ⟨2, ![4, 384]⟩
abbrev S1x384 : Shape := ⟨2, ![1, 384]⟩
abbrev S4x268 : Shape := ⟨2, ![4, 268]⟩
abbrev S4 : Shape := ⟨1, ![4]⟩
abbrev S4x1 : Shape := ⟨2, ![4, 1]⟩
abbrev S4x268x1 : Shape := ⟨3, ![4, 268, 1]⟩
abbrev S4x268x2 : Shape := ⟨3, ![4, 268, 2]⟩
abbrev S4x384x1x1 : Shape := ⟨4, ![4, 384, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S384x384, .f32⟩
  | .hbm, ⟨2, _⟩ => ⟨S384, .f32⟩
  | .hbm, ⟨3, _⟩ => ⟨S384x384, .f32⟩
  | .hbm, ⟨4, _⟩ => ⟨S384, .f32⟩
  | .hbm, ⟨5, _⟩ => ⟨S_, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S384x384, .f32⟩
  | .hbm, ⟨11, _⟩ => ⟨S4x384, .f32⟩
  | .hbm, ⟨12, _⟩ => ⟨S1x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S384x384, .f32⟩
  | .hbm, ⟨19, _⟩ => ⟨S4x384, .f32⟩
  | .hbm, ⟨20, _⟩ => ⟨S1x384, .f32⟩
  | .hbm, ⟨21, _⟩ => ⟨S4x384, .f32⟩
  | .hbm, ⟨22, _⟩ => ⟨S4x384, .f32⟩
  | .hbm, ⟨23, _⟩ => ⟨S4x384, .f32⟩
  | .hbm, ⟨24, _⟩ => ⟨S4x384, .f32⟩
  | .hbm, ⟨25, _⟩ => ⟨S_, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x268, .f32⟩
  | .hbm, ⟨32, _⟩ => ⟨S4x268, .i32⟩
  | .hbm, ⟨33, _⟩ => ⟨S_, .f32⟩
  | .hbm, ⟨34, _⟩ => ⟨S4x384, .f32⟩
  | .hbm, ⟨35, _⟩ => ⟨S4, .i32⟩
  | .hbm, ⟨36, _⟩ => ⟨S4x1, .i32⟩
  | .hbm, ⟨37, _⟩ => ⟨S_, .i32⟩
  | .hbm, ⟨38, _⟩ => ⟨S4x1, .i32⟩
  | .hbm, ⟨39, _⟩ => ⟨S4x1, .i1⟩
  | .hbm, ⟨40, _⟩ => ⟨S_, .i32⟩
  | .hbm, ⟨41, _⟩ => ⟨S4x1, .i32⟩
  | .hbm, ⟨42, _⟩ => ⟨S4x1, .i32⟩
  | .hbm, ⟨43, _⟩ => ⟨S4x1, .i32⟩
  | .hbm, ⟨44, _⟩ => ⟨S_, .i32⟩
  | .hbm, ⟨45, _⟩ => ⟨S4x268, .i32⟩
  | .hbm, ⟨46, _⟩ => ⟨S4x268, .i1⟩
  | .hbm, ⟨47, _⟩ => ⟨S_, .i32⟩
  | .hbm, ⟨48, _⟩ => ⟨S4x268, .i32⟩
  | .hbm, ⟨49, _⟩ => ⟨S4x268, .i32⟩
  | .hbm, ⟨50, _⟩ => ⟨S4x268, .i32⟩
  | .hbm, ⟨51, _⟩ => ⟨S4x268, .i32⟩
  | .hbm, ⟨52, _⟩ => ⟨S4x268x1, .i32⟩
  | .hbm, ⟨53, _⟩ => ⟨S4x268x1, .i32⟩
  | .hbm, ⟨54, _⟩ => ⟨S4x268x2, .i32⟩
  | .hbm, ⟨55, _⟩ => ⟨S_, .f32⟩
  | .hbm, ⟨56, _⟩ => ⟨S4x268, .f32⟩
  | .hbm, ⟨57, _⟩ => ⟨S4x384, .f32⟩
  | .hbm, ⟨58, _⟩ => ⟨S4x384x1x1, .f32⟩
  | .hbm, ⟨59, _⟩ => ⟨S4x384x224x224, .f32⟩
  | .hbm, ⟨60, _⟩ => ⟨S4x384x224x224, .f32⟩
  | .hbm, ⟨61, _⟩ => ⟨S_, .f32⟩
  | .hbm, ⟨62, _⟩ => ⟨S4x384x1x1, .f32⟩
  | .hbm, ⟨63, _⟩ => ⟨S4x384x1x1, .f32⟩
  | .hbm, ⟨64, _⟩ => ⟨S4x384x224x224, .f32⟩
  | .hbm, ⟨65, _⟩ => ⟨S4x384x224x224, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_values : Ref sig .tc := ⟨.hbm, 31, rfl⟩
abbrev main_indices : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.Body.lean ====
/- What one grid point does to the buffers, case by case: the first point of a row of the grid stores the block's sums,
   the next seven add theirs, the ninth turns the sums into the soft and hard mask rows, and the last eight apply the
   hard mask to their blocks. -/
module

public import proofs.«01_k».proof.Proof.Gen.KernelIdeal.Frame
public import proofs.«01_k».proof.Proof.Gen.KernelIdeal.Skeleton
public import Idealize.ShloMosaic.Lib.Exec
public import Idealize.ShloMosaic.Lib.Writes
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The branch conditions over the grid -/

/-- The first branch's condition: the inner coordinate is 0. -/
abbrev isFirst (i : grid0.Coords) : Prop := (Scalar.cmpi .ne (Scalar.extui (Scalar.cmpi .eq (BitVec.ofNat 32 (i 1).val) 0#32)) 0#32) = 1#1
/-- The second branch's condition: the inner coordinate is one of 1 to 7. -/
abbrev isAdding (i : grid0.Coords) : Prop := (Scalar.cmpi .ne (Scalar.extui (Scalar.andi (Scalar.cmpi .sgt (BitVec.ofNat 32 (i 1).val) 0#32) (Scalar.cmpi .slt (BitVec.ofNat 32 (i 1).val) 8#32))) 0#32) = 1#1

theorem isFirst_iff : ∀ t : Fin cfg0.N, isFirst (grid0.coords t) ↔ t.val % 16 = 0 :=
  (by decide +kernel : ∀ t : Fin grid0.N, isFirst (grid0.coords t) ↔ t.val % 16 = 0)
theorem isAdding_iff : ∀ t : Fin cfg0.N, isAdding (grid0.coords t) ↔ (1 ≤ t.val % 16 ∧ t.val % 16 ≤ 7) :=
  (by decide +kernel : ∀ t : Fin grid0.N, isAdding (grid0.coords t) ↔ (1 ≤ t.val % 16 ∧ t.val % 16 ≤ 7))
theorem isGate_iff : ∀ t : Fin cfg0.N, k0_cond3 (grid0.coords t) = 1#1 ↔ t.val % 16 = 8 :=
  (by decide +kernel : ∀ t : Fin grid0.N, k0_cond3 (grid0.coords t) = 1#1 ↔ t.val % 16 = 8)
theorem isApply_iff : ∀ t : Fin cfg0.N, k0_cond4 (grid0.coords t) = 1#1 ↔ 8 ≤ t.val % 16 :=
  (by decide +kernel : ∀ t : Fin grid0.N, k0_cond4 (grid0.coords t) = 1#1 ↔ 8 ≤ t.val % 16)

/-- A mask array with row `i 0` replaced. -/
abbrev setRow (i : grid0.Coords) (y : Vec F S4x384 .f32) (w : FVec F S1x384 .f32) : Vec F S4x384 .f32 :=
  VecWindow.put y (k0_off1 i) S1x384.size w

/-! ## The four cases -/

section Runs

variable (c : Dev nD) (i : grid0.Coords) (arg2 : Memref sig .tc .vmem S384x384 .f32) (harg2 : arg2.IsWhole) (arg3 : Memref sig .tc .vmem S384 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x28x224x384 .f32) (harg6 : arg6.IsWhole) (arg7 : Memref sig .tc .vmem S1x28x224x384 .f32) (harg7 : arg7.IsWhole) (arg8 : Memref sig .tc .vmem S1x28x224x384 .f32) (harg8 : arg8.IsWhole) (arg9 : Memref sig .tc .vmem S4x384 .f32) (harg9 : arg9.IsWhole) (arg10 : Memref sig .tc .vmem S4x384 .f32) (harg10 : arg10.IsWhole) (arg11 : Memref sig .tc .vmem S1x384 .f32) (harg11 : arg11.IsWhole) (arg12 : Memref sig .tc .vmem S1x384 .f32) (harg12 : arg12.IsWhole)

/-- The first point of a row: the accumulator holds the block's sums. -/
theorem run_first (hc0 : isFirst i) (hc1 : ¬isAdding i) (hc2 : ¬k0_cond3 i = 1#1) (hc3 : ¬k0_cond4 i = 1#1)
    (x4 : Vec F S1x28x224x384 .f32) (E : Set ℕ) (K : PUnit → sProp 𝕄) :
    iprop(owns (c : Thread nD τ) arg6 fullShare x4 ∗ (∃ d, owns (c : Thread nD τ) arg11 fullShare d)
        ∗ (iprop(owns (c : Thread nD τ) arg6 fullShare x4 ∗ owns (c : Thread nD τ) arg11 fullShare (k0_pay1 x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f4, %hf4, H4⟩, ⟨%ds0, %fs0, -, HS0⟩, Hk⟩
  obtain rfl := harg6.eq_unread hf4
  sl_exec (disch := first | sl_exact hc0 | sl_exact hc1 | sl_exact hc2 | sl_exact hc3)
  sl_step
  iapply Hk
  isplitl [H4]
  · iexists _; isplitr; · ipureintro; exact harg6.read_unread _
    iexact H4
  iexists _; isplitr; swap; · iexact HS0
  ipureintro
  exact (View.read_writes_full arg11.view _ _ _ _).trans
    (congrArg k0_pay1 ((View.readAt_full arg6.view _ _).trans (harg6.read_unread x4)))

/-- The next seven: the block's sums are added. -/
theorem run_add (hc0 : ¬isFirst i) (hc1 : isAdding i) (hc2 : ¬k0_cond3 i = 1#1) (hc3 : ¬k0_cond4 i = 1#1)
    (x4 : Vec F S1x28x224x384 .f32) (a : Vec F S1x384 .f32) (E : Set ℕ) (K : PUnit → sProp 𝕄) :
    iprop(owns (c : Thread nD τ) arg6 fullShare x4 ∗ owns (c : Thread nD τ) arg11 fullShare a
        ∗ (iprop(owns (c : Thread nD τ) arg6 fullShare x4 ∗ owns (c : Thread nD τ) arg11 fullShare (k0_pay2 a x4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f4, %hf4, H4⟩, ⟨%fs0, %hfs0, HS0⟩, Hk⟩
  obtain rfl := harg6.eq_unread hf4; obtain rfl := harg11.eq_unread hfs0
  sl_exec (disch := first | sl_exact hc0 | sl_exact hc1 | sl_exact hc2 | sl_exact hc3)
  sl_step
  iapply Hk
  isplitl [H4]
  · iexists _; isplitr; · ipureintro; exact harg6.read_unread _
    iexact H4
  iexists _; isplitr; swap; · iexact HS0
  ipureintro
  exact (View.read_writes_full arg11.view _ _ _ _).trans
    (congrArg₂ k0_pay2 ((View.readAt_full arg11.view _ _).trans (harg11.read_unread a))
      ((View.readAt_full arg6.view _ _).trans (harg6.read_unread x4)))

/-- The last seven: the hard mask kept in its buffer is applied to the block. -/
theorem run_apply (hc0 : ¬isFirst i) (hc1 : ¬isAdding i) (hc2 : ¬k0_cond3 i = 1#1) (hc3 : k0_cond4 i = 1#1)
    (x4 : Vec F S1x28x224x384 .f32) (s : Vec F S1x384 .f32) (E : Set ℕ) (K : PUnit → sProp 𝕄) :
    iprop(owns (c : Thread nD τ) arg6 fullShare x4 ∗ (∃ d, owns (c : Thread nD τ) arg7 fullShare d) ∗ (∃ d, owns (c : Thread nD τ) arg8 fullShare d)
        ∗ owns (c : Thread nD τ) arg12 fullShare s
        ∗ (iprop(owns (c : Thread nD τ) arg6 fullShare x4 ∗ owns (c : Thread nD τ) arg7 fullShare (k0_pay7 s x4)
            ∗ owns (c : Thread nD τ) arg8 fullShare (k0_pay8 s x4) ∗ owns (c : Thread nD τ) arg12 fullShare s) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f4, %hf4, H4⟩, ⟨%d5, %f5, -, H5⟩, ⟨%d6, %f6, -, H6⟩, ⟨%fs1, %hfs1, HS1⟩, Hk⟩
  obtain rfl := harg6.eq_unread hf4; obtain rfl := harg12.eq_unread hfs1
  sl_exec (disch := first | sl_exact hc0 | sl_exact hc1 | sl_exact hc2 | sl_exact hc3)
  sl_step
  iapply Hk
  isplitl [H4]
  · iexists _; isplitr; · ipureintro; exact harg6.read_unread _
    iexact H4
  isplitl [H5]
  · iexists _; isplitr; swap; · iexact H5
    ipureintro
    exact (View.read_writes_full arg7.view _ _ _ _).trans
      (congrArg₂ k0_pay7 ((View.readAt_full arg12.view _ _).trans (harg12.read_unread s))
        ((View.readAt_full arg6.view _ _).trans (harg6.read_unread x4)))
  isplitl [H6]
  · iexists _; isplitr; swap; · iexact H6
    ipureintro
    exact (View.read_writes_full arg8.view _ _ _ _).trans
      (congrArg₂ k0_pay8 ((View.readAt_full arg12.view _ _).trans (harg12.read_unread s))
        ((View.readAt_full arg6.view _ _).trans (harg6.read_unread x4)))
  iexists _; isplitr; · ipureintro; exact harg12.read_unread _
  iexact HS1

set_option maxHeartbeats 1000000 in
/-- The ninth point: the sums become the two mask rows, and the hard mask is applied to the block. -/
theorem run_gate (hc0 : ¬isFirst i) (hc1 : ¬isAdding i) (hc2 : k0_cond3 i = 1#1) (hc3 : k0_cond4 i = 1#1)
    (x0 : Vec F S384x384 .f32) (x1 : Vec F S384 .f32) (x2 : Vec F S384x384 .f32) (x3 : Vec F S384 .f32)
    (x4 : Vec F S1x28x224x384 .f32) (a : Vec F S1x384 .f32) (y7 y8 : Vec F S4x384 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare y7 ∗ owns (c : Thread nD τ) arg10 fullShare y8
        ∗ owns (c : Thread nD τ) arg11 fullShare a ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay7 (k0_pay3 (k0_pay12 a x0 x1 x2 x3)) x4)
            ∗ owns (c : Thread nD τ) arg8 fullShare (k0_pay8 (k0_pay3 (k0_pay12 a x0 x1 x2 x3)) x4)
            ∗ owns (c : Thread nD τ) arg9 fullShare (setRow i y7 (k0_pay10 a x0 x1 x2 x3))
            ∗ owns (c : Thread nD τ) arg10 fullShare (setRow i y8 (k0_pay4 (k0_pay11 a x0 x1 x2 x3)))
            ∗ owns (c : Thread nD τ) arg11 fullShare a ∗ owns (c : Thread nD τ) arg12 fullShare (k0_pay3 (k0_pay12 a x0 x1 x2 x3))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hf7; obtain rfl := harg10.eq_unread hf8; obtain rfl := harg11.eq_unread hfs0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  have e0 := (View.readAt_full arg2.view (harg2.unread x0) inb_S384x384_S384x384_0_0).trans (harg2.read_unread x0)
  have e1 := (View.readAt_full arg3.view (harg3.unread x1) inb_S384_S384_0).trans (harg3.read_unread x1)
  have e2 := (View.readAt_full arg4.view (harg4.unread x2) inb_S384x384_S384x384_0_0).trans (harg4.read_unread x2)
  have e3 := (View.readAt_full arg5.view (harg5.unread x3) inb_S384_S384_0).trans (harg5.read_unread x3)
  have e4 := (View.readAt_full arg6.view (harg6.unread x4) inb_S1x28x224x384_S1x28x224x384_0_0_0_0).trans (harg6.read_unread x4)
  have ea := (View.readAt_full arg11.view (harg11.unread a) inb_S1x384_S1x384_0_0).trans (harg11.read_unread a)
  have es : run_gate.sl.v14 c arg2 harg2 arg3 harg3 arg4 harg4 arg5 harg5 arg11 harg11 arg12 x0 x1 x2 x3 a = k0_pay3 (k0_pay12 a x0 x1 x2 x3) := by
    unfold run_gate.sl.v14 run_gate.sl.HS1_1 run_gate.sl.r_1
    refine (View.readCov_full arg12.view _ _ _ _).trans ?_
    rw [e0, e1, e2, e3, ea]
  isplitl [H5]
  · iexists _; isplitr; swap; · iexact H5
    ipureintro
    refine (View.read_writes_full arg7.view _ _ _ _).trans (congrArg₂ k0_pay7 es e4)
  isplitl [H6]
  · iexists _; isplitr; swap; · iexact H6
    ipureintro
    refine (View.read_writes_full arg8.view _ _ _ _).trans (congrArg₂ k0_pay8 es e4)
  isplitl [H7]
  · iexists _; isplitr; swap; · iexact H7
    ipureintro
    refine (View.read_writes_cons_put arg9.view _ _ _ _ rfl).trans ?_
    refine congrArg₂ (setRow i) (harg9.read_unread y7) ?_
    rw [e0, e1, e2, e3, ea]
  isplitl [H8]
  · iexists _; isplitr; swap; · iexact H8
    ipureintro
    refine (View.read_writes_cons_put arg10.view _ _ _ _ rfl).trans ?_
    refine congrArg₂ (setRow i) (harg10.read_unread y8) ?_
    unfold run_gate.sl.r
    rw [e0, e1, e2, e3, ea]
  isplitl [HS0]
  · iexists _; isplitr; · ipureintro; exact harg11.read_unread _
    iexact HS0
  iexists _; isplitr; swap; · iexact HS1
  ipureintro
  unfold run_gate.sl.HS1_1 run_gate.sl.r_1
  refine (View.read_writes_full arg12.view _ _ _ _).trans ?_
  rw [e0, e1, e2, e3, ea]

end Runs

end Cert.KernelIdeal.Hand

end
-- ==== Proof.Data.lean ====
/- The launch's proof data: the sums held after a row's blocks, the soft and hard mask rows made of them, what each
   result's staging buffer holds after a point, and the invariant that carries the two scratch rows between points. -/
module

public import proofs.«01_k».proof.Proof.Body
public import Idealize.ShloMosaic.Lib.Pipeline.DatRel
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-! ## The values -/

/-- The block of the transposed features that point `n` reads. -/
def xblk (c : Dev nD) (n : ℕ) : Vec F S1x28x224x384 .f32 :=
  iblk m c 4 ⟨n % 64, lt_of_lt_of_eq (Nat.mod_lt _ (by decide)) N_0.symm⟩

theorem iblk_eq_xblk (c : Dev nD) (t : Fin cfg0.N) : iblk m c 4 t = xblk m c t.val := by
  have h : t.val % 64 = t.val := Nat.mod_eq_of_lt (lt_of_lt_of_eq t.isLt N_0)
  unfold xblk
  congr 1
  exact Fin.ext h.symm

/-- The sums over the first `j + 1` blocks of row `b`. -/
def sums (c : Dev nD) (b : ℕ) : ℕ → FVec F S1x384 .f32
  | 0 => k0_pay1 (xblk m c (16 * b))
  | j + 1 => k0_pay2 (sums c b j) (xblk m c (16 * b + (j + 1)))

/-- The four weight arrays as the launch finds them. -/
def w1 (c : Dev nD) : Vec F S384x384 .f32 := V m c main_arg1
def b1 (c : Dev nD) : Vec F S384 .f32 := V m c main_arg2
def w2 (c : Dev nD) : Vec F S384x384 .f32 := V m c main_arg3
def b2 (c : Dev nD) : Vec F S384 .f32 := V m c main_arg4

theorem iblk_w1 (c : Dev nD) (t : Fin cfg0.N) : iblk m c 0 t = w1 m c := by
  funext y
  unfold iblk w1
  refine congrArg (V m c main_arg1) ?_
  funext a
  refine Fin.ext ?_
  match a with
  | ⟨0, _⟩ => exact (Nat.zero_add _).trans (Nat.one_mul _)
  | ⟨1, _⟩ => exact (Nat.zero_add _).trans (Nat.one_mul _)
theorem iblk_b1 (c : Dev nD) (t : Fin cfg0.N) : iblk m c 1 t = b1 m c := by
  funext y
  unfold iblk b1
  refine congrArg (V m c main_arg2) ?_
  funext a
  refine Fin.ext ?_
  match a with
  | ⟨0, _⟩ => exact (Nat.zero_add _).trans (Nat.one_mul _)
theorem iblk_w2 (c : Dev nD) (t : Fin cfg0.N) : iblk m c 2 t = w2 m c := by
  funext y
  unfold iblk w2
  refine congrArg (V m c main_arg3) ?_
  funext a
  refine Fin.ext ?_
  match a with
  | ⟨0, _⟩ => exact (Nat.zero_add _).trans (Nat.one_mul _)
  | ⟨1, _⟩ => exact (Nat.zero_add _).trans (Nat.one_mul _)
theorem iblk_b2 (c : Dev nD) (t : Fin cfg0.N) : iblk m c 3 t = b2 m c := by
  funext y
  unfold iblk b2
  refine congrArg (V m c main_arg4) ?_
  funext a
  refine Fin.ext ?_
  match a with
  | ⟨0, _⟩ => exact (Nat.zero_add _).trans (Nat.one_mul _)

/-- Row `b` of the soft mask. -/
def softRow (c : Dev nD) (b : ℕ) : FVec F S1x384 .f32 := k0_pay10 (sums m c b 7) (w1 m c) (b1 m c) (w2 m c) (b2 m c)
/-- Row `b` of the hard mask as the result holds it, -/
def maskRow (c : Dev nD) (b : ℕ) : FVec F S1x384 .f32 := k0_pay4 (k0_pay11 (sums m c b 7) (w1 m c) (b1 m c) (w2 m c) (b2 m c))
/-- and as the scratch row holds it. -/
def keptRow (c : Dev nD) (b : ℕ) : FVec F S1x384 .f32 := k0_pay3 (k0_pay12 (sums m c b 7) (w1 m c) (b1 m c) (w2 m c) (b2 m c))

/-- The soft mask. -/
def softArr (c : Dev nD) : Vec F S4x384 .f32 := fun y => softRow m c (y 0).val (ValueIdx.ix2 (0 : Fin 1) (y 1 : Fin 384))
/-- The hard mask. -/
def maskArr (c : Dev nD) : Vec F S4x384 .f32 := fun y => maskRow m c (y 0).val (ValueIdx.ix2 (0 : Fin 1) (y 1 : Fin 384))

/-! ## The data -/

/-- The windows of the four results. -/
def fgt : Fin 9 → Bool := fun w => w.val == 5 || w.val == 6 || w.val == 7 || w.val == 8

/-- What a result's staging buffer holds after point `t`. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => 8 ≤ t.val % 16 → X = k0_pay7 (keptRow m c (t.val / 16)) (xblk m c t.val)
  | ⟨6, _⟩ => fun X => 8 ≤ t.val % 16 → X = k0_pay8 (keptRow m c (t.val / 16)) (xblk m c t.val)
  | ⟨7, _⟩ => fun X => ∀ y : S4x384.Idx, 16 * (y 0).val + 8 ≤ t.val → X y = softArr m c y
  | ⟨8, _⟩ => fun X => ∀ y : S4x384.Idx, 16 * (y 0).val + 8 ≤ t.val → X y = maskArr m c y

/-- The two scratch rows after point `n - 1`. -/
def Kept (c : Dev nD) (n : ℕ) (a s : FVec F S1x384 .f32) : Prop :=
  ∀ k, n = k + 1 → a = sums m c (k / 16) (min (k % 16) 7) ∧ (8 ≤ k % 16 → s = keptRow m c (k / 16))

/-- The scratch rows' memrefs. -/
abbrev scM0_0 : Memref sig .tc .vmem S1x384 .f32 := Memref.whole cc0_scratch0
abbrev scM0_1 : Memref sig .tc .vmem S1x384 .f32 := Memref.whole cc0_scratch1

/-- The invariant before point `n`. -/
def PhiS (c : Dev nD) (n : ℕ) : sProp 𝕄 :=
  iprop(∃ a, ∃ s, ⌜Kept m c n a s⌝ ∗ owns (c : Thread nD τ) scM0_0 fullShare a ∗ owns (c : Thread nD τ) scM0_1 fullShare s ∗ (∃ r, prngReg c r))

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The relational data the launch runs on. -/
def rdats (c : Dev nD) : RDat τ (Elt F) Unit ℕ (UR sig nD τ) ℕ cfg0 c := (dats m 0 c).toRRel fgt (Rl m c)

/-! ## What the two mask buffers hold when a point begins -/

theorem finds7 (c : Dev nD) (t : Fin cfg0.N) (Y : S4x384.Idx → Elt F .f32) (h : (rdats m c).Finds 7 t Y)
    (y : S4x384.Idx) (hy : 16 * (y 0).val + 8 < t.val) : Y y = softArr m c y := by
  have hN : t.val < 64 := lt_of_lt_of_eq t.isLt (show cfg0.N = 64 from N_0)
  have ht : t.val ≠ 0 := by omega
  have hf : (cfg0.win 7).fetch t = false := rfl
  rcases ((rdats m c).finds_of_pos hf ht Y).mp h with h1 | h1
  · have := (flush0_7 _).mp h1
    simp only at this
    omega
  · exact (dats m 0 c).toRRel_leaves (w := 7) rfl h1 y (by simp only; omega)

theorem finds8 (c : Dev nD) (t : Fin cfg0.N) (Y : S4x384.Idx → Elt F .f32) (h : (rdats m c).Finds 8 t Y)
    (y : S4x384.Idx) (hy : 16 * (y 0).val + 8 < t.val) : Y y = maskArr m c y := by
  have hN : t.val < 64 := lt_of_lt_of_eq t.isLt (show cfg0.N = 64 from N_0)
  have ht : t.val ≠ 0 := by omega
  have hf : (cfg0.win 8).fetch t = false := rfl
  rcases ((rdats m c).finds_of_pos hf ht Y).mp h with h1 | h1
  · have := (flush0_8 _).mp h1
    simp only at this
    omega
  · exact (dats m 0 c).toRRel_leaves (w := 8) rfl h1 y (by simp only; omega)

/-- Row `i 0` of a mask array after the row is replaced, and the other rows. -/
theorem setRow_apply (i : grid0.Coords) (y : Vec F S4x384 .f32) (w : FVec F S1x384 .f32) (z : S4x384.Idx) :
    setRow i y w z = if (z 0).val = (k0_off1 i 0) then w (ValueIdx.ix2 (0 : Fin 1) (z 1 : Fin 384)) else y z := by
  unfold setRow VecWindow.put
  have e1 : k0_off1 i 1 = 0 := rfl
  by_cases h : (z 0).val = k0_off1 i 0
  · rw [if_pos h, dif_pos]
    · congr 1
      funext a
      refine Fin.ext ?_
      match a with
      | ⟨0, _⟩ => show (z 0).val - k0_off1 i 0 = 0; omega
      | ⟨1, _⟩ => show (z 1).val - k0_off1 i 1 = (z 1).val; omega
    · intro a
      match a with
      | ⟨0, _⟩ =>
        show k0_off1 i 0 ≤ (z 0).val ∧ (z 0).val < k0_off1 i 0 + 1
        omega
      | ⟨1, _⟩ =>
        show k0_off1 i 1 ≤ (z 1).val ∧ (z 1).val < k0_off1 i 1 + 384
        have : (z 1).val < 384 := (z 1).isLt
        omega
  · rw [if_neg h, dif_neg]
    intro hall
    have h0 : k0_off1 i 0 ≤ (z 0).val ∧ (z 0).val < k0_off1 i 0 + 1 := hall 0
    omega

theorem off1_eq : ∀ t : Fin cfg0.N, k0_off1 (grid0.coords t) 0 = t.val / 16 :=
  (by decide +kernel : ∀ t : Fin grid0.N, k0_off1 (grid0.coords t) 0 = t.val / 16)

end Cert.KernelIdeal.Hand

end
-- ==== Proof.Obligation.lean ====
/- The body meets the proof data at every point of the grid: one theorem per case of the body, then the launch's
   obligation, and the invariant at the launch's two ends. -/
module

public import proofs.«01_k».proof.Proof.Data

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-! ## The scratch rows, point by point -/

section Kept

variable (c : Dev nD) {n : ℕ} {a s : FVec F S1x384 .f32}

theorem kept_first (h : n % 16 = 0) : Kept m c (n + 1) (k0_pay1 (xblk m c n)) s := by
  intro k hk
  obtain rfl : n = k := by omega
  refine ⟨?_, fun h8 => by omega⟩
  have e : 16 * (n / 16) = n := by omega
  rw [h]
  show _ = k0_pay1 (xblk m c (16 * (n / 16)))
  rw [e]

theorem kept_add (h : 1 ≤ n % 16 ∧ n % 16 ≤ 7) (hK : Kept m c n a s) : Kept m c (n + 1) (k0_pay2 a (xblk m c n)) s := by
  intro k hk
  obtain rfl : n = k := by omega
  refine ⟨?_, fun h8 => by omega⟩
  obtain ⟨p, rfl⟩ : ∃ p, n = p + 1 := ⟨n - 1, by omega⟩
  rw [(hK p rfl).1]
  have e1 : min ((p + 1) % 16) 7 = min (p % 16) 7 + 1 := by omega
  have e2 : (p + 1) / 16 = p / 16 := by omega
  have e3 : 16 * (p / 16) + (min (p % 16) 7 + 1) = p + 1 := by omega
  rw [e1, e2]
  show _ = k0_pay2 _ (xblk m c (16 * (p / 16) + (min (p % 16) 7 + 1)))
  rw [e3]

theorem kept_sums (h : 8 ≤ n % 16) (hK : Kept m c n a s) : a = sums m c (n / 16) 7 := by
  obtain ⟨p, rfl⟩ : ∃ p, n = p + 1 := ⟨n - 1, by omega⟩
  rw [(hK p rfl).1]
  have e1 : min (p % 16) 7 = 7 := by omega
  have e2 : p / 16 = (p + 1) / 16 := by omega
  rw [e1, e2]

theorem kept_mask (h : 9 ≤ n % 16) (hK : Kept m c n a s) : s = keptRow m c (n / 16) := by
  obtain ⟨p, rfl⟩ : ∃ p, n = p + 1 := ⟨n - 1, by omega⟩
  rw [(hK p rfl).2 (by omega)]
  have e2 : p / 16 = (p + 1) / 16 := by omega
  rw [e2]

theorem kept_of (h : 8 ≤ n % 16) (ha : a = sums m c (n / 16) 7) (hs : s = keptRow m c (n / 16)) : Kept m c (n + 1) a s := by
  intro k hk
  obtain rfl : n = k := by omega
  have e1 : min (n % 16) 7 = 7 := by omega
  exact ⟨by rw [e1]; exact ha, fun _ => hs⟩

end Kept

/-- A row of the soft or hard mask replaced at the ninth point of a row of the grid. -/
theorem setRow_meets (t : Fin cfg0.N) (h : t.val % 16 = 8) (A Y : Vec F S4x384 .f32) (w : FVec F S1x384 .f32)
    (hw : ∀ y : S4x384.Idx, (y 0).val = t.val / 16 → w (ValueIdx.ix2 (0 : Fin 1) (y 1 : Fin 384)) = A y)
    (hY : ∀ y : S4x384.Idx, 16 * (y 0).val + 8 < t.val → Y y = A y) (y : S4x384.Idx) (hy : 16 * (y 0).val + 8 ≤ t.val) :
    setRow (grid0.coords t) Y w y = A y := by
  rw [setRow_apply, off1_eq]
  split_ifs with e
  · exact hw y e
  · exact hY y (by omega)

/-! ## The body's triple -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S384x384 .f32 := win0_0.stage (cfg0.slots t 0)
abbrev ms0_1 (t : Fin cfg0.N) : Memref sig .tc .vmem S384 .f32 := win0_1.stage (cfg0.slots t 1)
abbrev ms0_2 (t : Fin cfg0.N) : Memref sig .tc .vmem S384x384 .f32 := win0_2.stage (cfg0.slots t 2)
abbrev ms0_3 (t : Fin cfg0.N) : Memref sig .tc .vmem S384 .f32 := win0_3.stage (cfg0.slots t 3)
abbrev ms0_4 (t : Fin cfg0.N) : Memref sig .tc .vmem S1x28x224x384 .f32 := win0_4.stage (cfg0.slots t 4)
abbrev ms0_5 (t : Fin cfg0.N) : Memref sig .tc .vmem S1x28x224x384 .f32 := win0_5.stage (cfg0.slots t 5)
abbrev ms0_6 (t : Fin cfg0.N) : Memref sig .tc .vmem S1x28x224x384 .f32 := win0_6.stage (cfg0.slots t 6)
abbrev ms0_7 (t : Fin cfg0.N) : Memref sig .tc .vmem S4x384 .f32 := win0_7.stage (cfg0.slots t 7)
abbrev ms0_8 (t : Fin cfg0.N) : Memref sig .tc .vmem S4x384 .f32 := win0_8.stage (cfg0.slots t 8)

/-- The invariant's resources at named scratch rows. -/
abbrev atRows (c : Dev nD) (a s : FVec F S1x384 .f32) : sProp 𝕄 :=
  iprop(owns (c : Thread nD τ) scM0_0 fullShare a ∗ owns (c : Thread nD τ) scM0_1 fullShare s ∗ (∃ r, prngReg c r))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y)
    ∗ (∃ Y, ⌜(rdats m c).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4, iblk_w1, iblk_b1, iblk_w2, iblk_b2, iblk_eq_xblk]
  rw [show (dats m 0 c).owesAt () t.succ = (dats m 0 c).owesAt () t.castSucc from rfl]
  rw [show (dats m 0 c).Φ t.castSucc = PhiS m c t.val from rfl, show (dats m 0 c).Φ t.succ = PhiS m c (t.val + 1) from rfl]
  unfold PhiS
  iintro ⟨⟨%a, %s, %hK, HS0, HS1, Hg⟩, Ho, ⟨%d0, H0⟩, ⟨%d1, H1⟩, ⟨%d2, H2⟩, ⟨%d3, H3⟩, ⟨%d4, H4⟩, ⟨%Y5, %hY5, H5⟩, ⟨%Y6, %hY6, H6⟩, ⟨%Y7, %hY7, H7⟩, ⟨%Y8, %hY8, H8⟩⟩
  have h7 := finds7 m c t Y7 hY7
  have h8 := finds8 m c t Y8 hY8
  by_cases c0 : t.val % 16 = 0
  · have c1 : ¬(1 ≤ t.val % 16 ∧ t.val % 16 ≤ 7) := by omega
    have c2 : ¬t.val % 16 = 8 := by omega
    have c3 : ¬8 ≤ t.val % 16 := by omega
    iapply (run_first c (grid0.coords t) _ _ _ _ _ _ _ _ _ _ _ _ _ _ _ _ _ _ _ _ _ _ ((isFirst_iff t).mpr c0) (fun h => c1 ((isAdding_iff t).mp h)) (fun h => c2 ((isGate_iff t).mp h)) (fun h => c3 ((isApply_iff t).mp h)) (xblk m c t.val) Set.univ _)
    isplitl [H4]; · iexact H4
    isplitl [HS0]; · iexists _; iexact HS0
    iintro ⟨H4, HS0⟩
    isplitl [HS0 HS1 Hg]
    · iexists _; iexists _; isplitr; swap
      · isplitl [HS0]; · iexact HS0
        isplitl [HS1]; · iexact HS1
        iexact Hg
      · ipureintro; exact kept_first m c c0
    isplitl [Ho]; · iexact Ho
    isplitl [H0]; · iexact H0
    isplitl [H1]; · iexact H1
    isplitl [H2]; · iexact H2
    isplitl [H3]; · iexact H3
    isplitl [H4]; · iexact H4
    isplitl [H5]; · iexists Y5; isplitr; · ipureintro; exact fun h => absurd h c3
                    iexact H5
    isplitl [H6]; · iexists Y6; isplitr; · ipureintro; exact fun h => absurd h c3
                    iexact H6
    isplitl [H7]; · iexists Y7; isplitr; · ipureintro; exact fun y hy => h7 y (by omega)
                    iexact H7
    iexists Y8; isplitr; · ipureintro; exact fun y hy => h8 y (by omega)
    iexact H8
  by_cases c1 : 1 ≤ t.val % 16 ∧ t.val % 16 ≤ 7
  · have c2 : ¬t.val % 16 = 8 := by omega
    have c3 : ¬8 ≤ t.val % 16 := by omega
    iapply (run_add c (grid0.coords t) _ _ _ _ _ _ _ _ _ _ _ _ _ _ _ _ _ _ _ _ _ _ (fun h => c0 ((isFirst_iff t).mp h)) ((isAdding_iff t).mpr c1) (fun h => c2 ((isGate_iff t).mp h)) (fun h => c3 ((isApply_iff t).mp h)) (xblk m c t.val) a Set.univ _)
    isplitl [H4]; · iexact H4
    isplitl [HS0]; · iexact HS0
    iintro ⟨H4, HS0⟩
    isplitl [HS0 HS1 Hg]
    · iexists _; iexists _; isplitr; swap
      · isplitl [HS0]; · iexact HS0
        isplitl [HS1]; · iexact HS1
        iexact Hg
      · ipureintro; exact kept_add m c c1 hK
    isplitl [Ho]; · iexact Ho
    isplitl [H0]; · iexact H0
    isplitl [H1]; · iexact H1
    isplitl [H2]; · iexact H2
    isplitl [H3]; · iexact H3
    isplitl [H4]; · iexact H4
    isplitl [H5]; · iexists Y5; isplitr; · ipureintro; exact fun h => absurd h c3
                    iexact H5
    isplitl [H6]; · iexists Y6; isplitr; · ipureintro; exact fun h => absurd h c3
                    iexact H6
    isplitl [H7]; · iexists Y7; isplitr; · ipureintro; exact fun y hy => h7 y (by omega)
                    iexact H7
    iexists Y8; isplitr; · ipureintro; exact fun y hy => h8 y (by omega)
    iexact H8
  have c3 : 8 ≤ t.val % 16 := by omega
  have ha := kept_sums m c c3 hK
  by_cases c2 : t.val % 16 = 8
  · subst ha
    iapply (run_gate c (grid0.coords t) _ _ _ _ _ _ _ _ _ _ _ _ _ _ _ _ _ _ _ _ _ _ (fun h => c0 ((isFirst_iff t).mp h)) (fun h => c1 ((isAdding_iff t).mp h)) ((isGate_iff t).mpr c2) ((isApply_iff t).mpr c3) (w1 m c) (b1 m c) (w2 m c) (b2 m c) (xblk m c t.val) (sums m c (t.val / 16) 7) Y7 Y8 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [HS0]; · iexact HS0
    isplitl [HS1]; · iexists _; iexact HS1
    iintro ⟨H0, H1, H2, H3, H4, H5, H6, H7, H8, HS0, HS1⟩
    isplitl [HS0 HS1 Hg]
    · iexists _; iexists _; isplitr; swap
      · isplitl [HS0]; · iexact HS0
        isplitl [HS1]; · iexact HS1
        iexact Hg
      · ipureintro; exact kept_of m c c3 rfl rfl
    isplitl [Ho]; · iexact Ho
    isplitl [H0]; · iexact H0
    isplitl [H1]; · iexact H1
    isplitl [H2]; · iexact H2
    isplitl [H3]; · iexact H3
    isplitl [H4]; · iexact H4
    isplitl [H5]; · iexists _; isplitr; swap; · iexact H5
                    ipureintro; exact fun _ => rfl
    isplitl [H6]; · iexists _; isplitr; swap; · iexact H6
                    ipureintro; exact fun _ => rfl
    isplitl [H7]; · iexists _; isplitr; swap; · iexact H7
                    ipureintro; exact setRow_meets t c2 (softArr m c) Y7 _ (fun y e => by unfold softArr; rw [e]; rfl) h7
    iexists _; isplitr; swap; · iexact H8
    ipureintro; exact setRow_meets t c2 (maskArr m c) Y8 _ (fun y e => by unfold maskArr; rw [e]; rfl) h8
  · have hs := kept_mask m c (by omega) hK
    subst hs
    iapply (run_apply c (grid0.coords t) _ _ _ _ _ _ _ _ _ _ _ _ _ _ _ _ _ _ _ _ _ _ (fun h => c0 ((isFirst_iff t).mp h)) (fun h => c1 ((isAdding_iff t).mp h)) (fun h => c2 ((isGate_iff t).mp h)) ((isApply_iff t).mpr c3) (xblk m c t.val) (keptRow m c (t.val / 16)) Set.univ _)
    isplitl [H4]; · iexact H4
    isplitl [H5]; · iexists _; iexact H5
    isplitl [H6]; · iexists _; iexact H6
    isplitl [HS1]; · iexact HS1
    iintro ⟨H4, H5, H6, HS1⟩
    isplitl [HS0 HS1 Hg]
    · iexists _; iexists _; isplitr; swap
      · isplitl [HS0]; · iexact HS0
        isplitl [HS1]; · iexact HS1
        iexact Hg
      · ipureintro; exact kept_of m c c3 ha rfl
    isplitl [Ho]; · iexact Ho
    isplitl [H0]; · iexact H0
    isplitl [H1]; · iexact H1
    isplitl [H2]; · iexact H2
    isplitl [H3]; · iexact H3
    isplitl [H4]; · iexact H4
    isplitl [H5]; · iexists _; isplitr; swap; · iexact H5
                    ipureintro; exact fun _ => rfl
    isplitl [H6]; · iexists _; isplitr; swap; · iexact H6
                    ipureintro; exact fun _ => rfl
    isplitl [H7]; · iexists Y7; isplitr; · ipureintro; exact fun y hy => h7 y (by omega)
                    iexact H7
    iexists Y8; isplitr; · ipureintro; exact fun y hy => h8 y (by omega)
    iexact H8

/-! ## The launch's obligation and the invariant's two ends -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%a, HS0⟩, ⟨%s, HS1⟩⟩, Hg⟩
  iexists a; iexists s; isplitr
  · ipureintro; exact fun k hk => absurd hk (by omega)
  isplitl [HS0]; · iexact HS0
  isplitl [HS1]; · iexact HS1
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%a, %s, -, HS0, HS1, Hg⟩
  isplitl [HS0 HS1]
  · isplitl [HS0]
    · iexists a; iexact HS0
    iexists s; iexact HS1
  iexact Hg

end Cert.KernelIdeal.Hand

end
-- ==== Proof.Launch.lean ====
/- The launch when the results are held to a predicate and host lines follow the launch: every final state has the arrays
   at contents the predicate allows and the other buffers at what the host lines compute from such contents. -/
module

public import Idealize.ShloMosaic.Lib.Pipeline.FrameSuffix
public import Idealize.ShloMosaic.Lib.Pipeline.DatRel

@[expose] public section

noncomputable section

namespace Cert.KernelIdeal.Hand

open Idealize.ShloMosaic Idealize.ShloMosaic.Pipeline Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds

section Named

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

variable {cfg : Cfg sig Λ₀} {c : Dev nD} (rd : RDat τ Val Unit ℕ (UR sig nD τ) ℕ cfg c)

/-- The arrays after the first `n` write-backs are the arrays at some contents they may then hold, -/
theorem arraysAt_open (n : ℕ) :
    (rd.arraysAt n : sProp 𝕄) ⊢ iprop(∃ A, ⌜∀ w, rd.ArrAt w n (A w)⌝ ∗ rd.arrays A) := by
  unfold RDat.arraysAt RDat.arrays
  refine (BI.bigSep_exists_pi Finset.univ (fun w G => iprop(⌜rd.ArrAt w n G⌝
    ∗ (cfg.win w).arr.view.loc (c.tc : Thread nD τ) ↦[(cfg.win w).arr.view.set]{rd.share w} G))).trans ?_
  iintro ⟨%A, H⟩
  ihave H2 := (BI.bigSep_pure_sep Finset.univ (fun w => rd.ArrAt w n (A w))
    (fun w => (cfg.win w).arr.view.loc (c.tc : Thread nD τ) ↦[(cfg.win w).arr.view.set]{rd.share w} A w)) $$ H
  icases H2 with ⟨%hA, H⟩
  iexists A
  isplitr
  · ipureintro; exact fun w => hA w (Finset.mem_univ w)
  · iexact H

/-- and the other way round. -/
theorem arraysAt_close (n : ℕ) (A) (hA : ∀ w, rd.ArrAt w n (A w)) : (rd.arrays A : sProp 𝕄) ⊢ rd.arraysAt n := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ G, ⌜rd.ArrAt w n G⌝ ∗ (cfg.win w).arr.view.loc (c.tc : Thread nD τ) ↦[(cfg.win w).arr.view.set]{rd.share w} G)
  iintro H
  iexists (A w)
  isplitr
  · ipureintro; exact hA w
  · iexact H

end Named

section Launch

variable {nD : Nat} {τ : Topo} {sig : RefSig} {Val : EltTy → Type} [∀ e, Nonempty (Val e)]
variable {Λ₀ : Idealize.SL.Sem.Labels} {P : Type} [Fintype P] [DecidableEq P]
variable (cfgs : P → Cfg sig Λ₀) (p : P)

local notation "𝕄" => MT nD τ sig Unit Val ℕ (UR sig nD τ) ℕ
local notation "pcs" => (fun q => Cfg.toPCfg (Val := Val) (cfgs q))
local notation "adm" => (fun q => Cfg.toPCfg_adm (Val := Val) (cfgs q))

/-- What a final state holds: the arrays as the data allow, and the other buffers as the host lines leave them when
    started from arrays as the data allow. -/
def EndsAt (rd : (c : Dev nD) → RDat τ Val Unit ℕ (UR sig nD τ) ℕ (cfgs p) c) (V₀ : Dev nD → Valuation τ sig Val)
    (ops : List (HloOp τ sig Val)) (c : Dev nD) (s : MemSt nD τ sig Val) : Prop :=
  (∀ w, (rd c).ArrAt w (cfgs p).N (s.mem (((cfgs p).win w).arr.view.loc (c.tc : Thread nD τ))))
  ∧ ∃ A, (∀ w, (rd c).ArrAt w (cfgs p).N (A w))
      ∧ ∀ b ∈ restRefsP sig Prefetch.none (cfgs p).spec, s.mem ((c.tc : Thread nD τ).loc b)
          = StableHlo.after ops (withArrays (cfgs p).spec c (V₀ c) A) (Proc.devRef .tc b)

theorem run_named (kit : LaunchFacts (nD := nD) (τ := τ) cfgs p) (defs₀ : Defs nD τ sig Val Λ₀) (𝒱₀ : Variants)
    (rd : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rd c).BodyObligation defs₀ 𝒱₀ () Set.univ)
    (hshare : ∀ c w, (rd c).share w = fullShare) (howed : ∀ c t, (rd c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rd c).A w = V₀ c (Proc.devRef .tc (arrRef (cfgs p).spec w)))
    (hin : ∀ c, ΦA (cfgs p).spec c ⊢ (rd c).Φ 0) (hout : ∀ c, (rd c).Φ (Fin.last (cfgs p).N) ⊢ ΦA (cfgs p).spec c) :
    θ_run (Pipeline.defs pcs defs₀) (onTc main) (s₀ m g)
      (fun r => (∀ c, EndsAt cfgs p rd V₀ opss.flatten c r.2) ∧ r.2.sem = fun _ => 0) := by
  classical
  have kit₀ := (kit.to₀).toP (Val := Val)
  have hq : ∀ c w, ((cfgs p).spec w).isOut = false → (rd c).q w = shareOf (cfgs p).spec w :=
    fun c w hw => (rd c).q_eq_shareOf_of_share_full kit.win.arr_inj (hshare c) w hw
  refine RDat.θ_run_region_pf_tail_quiescent pcs adm (RDat.familyOf pcs adm p rd) () (kit₀.cellOf_inj adm) p kit₀.win
    (OwnSemFacts.none (cfgs p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs adm) (kit₀.cellOf_inj adm)) (launchToks (pin pcs adm) (kit₀.cellOf_inj adm)))
    (hu₀ := ?_)
    (V := fun c b => V₀ c (Proc.devRef .tc b)) (hmain := hmain)
    (hsplit := fun c => by
      rw [RDat.familyOf_self]; exact (rd c).arrays_split_shared kit₀.sharedIn kit₀.arr_whole (hq c) _ _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => iprop(∃ A, ⌜∀ w, (rd c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := ?_) (hin := ?_) (hout := ?_) (htail := ?_)
    (QY := fun c s => ∃ A, (∀ w, (rd c).ArrAt w (cfgs p).N (A w))
      ∧ ∀ b ∈ restRefsP sig Prefetch.none (cfgs p).spec, s.mem ((c.tc : Thread nD τ).loc b)
          = StableHlo.after opss.flatten (withArrays (cfgs p).spec c (V₀ c) A) (Proc.devRef .tc b))
    (hY := ?_) (hQ := ?_)
  · iintro Hu; imodintro
    isplitl [Hu]
    · iapply (show (ownU _ : sProp 𝕄) ⊢ BI.own (emb₁ (initOf (cells (pin pcs adm) (kit₀.cellOf_inj adm)) (launchToks (pin pcs adm) (kit₀.cellOf_inj adm)))) from .rfl)
      iexact Hu
    · iapply (show (BI.emp : sProp 𝕄) ⊢ bigSep Finset.univ (fun _ : Dev nD => (BI.emp : sProp 𝕄)) from by rw [BI.bigSep_emp_const])
      iempintro
  · intro c
    iintro ⟨HU, -, -, Hp, -⟩; imodintro
    isplitl [Hp]
    · iexists _; iexact Hp
    · iexact HU
  · intro c
    rw [RDat.familyOf_self]
    refine Entails.trans ?_ (hin c)
    unfold ΦA
    iintro ⟨Hp, -, Hr⟩
    isplitl [Hr] <;> iassumption
  · intro c
    rw [RDat.familyOf_self]
    refine (hout c).trans ?_
    rw [ownSems0_none]; unfold ΦA
    iintro ⟨Hr, Hp⟩
    isplitl [Hp]; · iexact Hp
    isplitr; · iempintro
    iexact Hr
  · intro c Q'
    rw [RDat.familyOf_self]
    iintro ⟨Hk, Hb, Ha, HZ⟩
    ihave Ha' := (arraysAt_open (rd c) (cfgs p).N) $$ Ha
    icases Ha' with ⟨%A, %hA', Ha⟩
    have hB : ((rd c).arrays A : sProp 𝕄) = arrBufs (cfgs p).spec c (fun b => withArrays (cfgs p).spec c (V₀ c) A (Proc.devRef .tc b)) :=
      ((rd c).arrBufs_eq_arrays kit₀.sharedIn kit₀.arr_whole (hq c) _ A fun w =>
        (withArrays_arr_shared (cfgs p).spec c (V₀ c) A ((rd c).ArrAt_sharedIn kit₀.sharedIn (V₀ c) (hA c) (cfgs p).N A hA') w).symm).symm
    iapply (tail_seqs_bufs_b pcs defs₀ 𝒱₀ Prefetch.none (cfgs p).spec c (V₀ c) A opss hsub hfresh hkeep Q')
    isplitl [Hk]
    · iintro ⟨Hb, Ha, Hu⟩
      iapply Hk
      isplitl [Hb]; · iexact Hb
      isplitl [Ha]
      · iapply (arraysAt_close (rd c) (cfgs p).N A hA'); iapply (Entails.of_eq hB.symm); iexact Ha
      iexists A; isplitr
      · ipureintro; exact hA'
      · iexact Hu
    · isplitl [Hb]; · iexact Hb
      isplitl [Ha]; · iapply (Entails.of_eq hB); iexact Ha
      iexact HZ
  · intro c s'
    iintro ⟨-, HZ, HSI⟩
    icases HZ with ⟨%A, %hA', HZ⟩
    unfold unscopedRestP
    ihave HZ' := (pointsTo_read_all (restRefsP sig Prefetch.none (cfgs p).spec) (fun b => (c.tc : Thread nD τ).loc b)
      (fun b => StableHlo.after opss.flatten (withArrays (cfgs p).spec c (V₀ c) A) (Proc.devRef .tc b)) s') $$ [HZ HSI]
    · isplitl [HZ] <;> iassumption
    icases HZ' with ⟨%hZ, HSI⟩
    imodintro
    isplitr
    · ipureintro; exact ⟨A, hA', hZ⟩
    · iexact HSI
  · intro s h hz
    exact ⟨fun c => ⟨fun w => by simpa only [RDat.familyOf_self] using (h c).1 w, (h c).2.2⟩, hz⟩

end Launch

end Cert.KernelIdeal.Hand

end
-- ==== Proof.Ends.lean ====
/- The launch at this kernel's data, and the frame read off it. -/
module

public import proofs.«01_k».proof.Proof.Obligation
public import proofs.«01_k».proof.Proof.Launch
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat RDat)
open Idealize.SL Idealize.SL.RA Idealize.SL.BI Idealize.SL.Sem
open Idealize.ShloMosaic.Rounds

variable {F : FTy → Type} [FloatOps F] [Named F]

variable (m : (ℓ : Loc nD τ sig) → Buf (Elt F) ℓ) (ρ : Dev nD → PrngReg)

set_option backward.isDefEq.respectTransparency.types false in
set_option maxHeartbeats 800000 in
/-- Every final state of the kernel has its arrays at contents the data allow. -/
theorem run_ends : θ_run defs (onTc (τ := τ) (main (F := F))) (s₀ m ρ)
    (fun r => (∀ c, EndsAt cfgs 0 (rdats m) (V0 m) [hostOps1].flatten c r.2) ∧ r.2.sem = fun _ => 0) :=
  run_named cfgs 0 launch0 defs₀ Variants.none (rdats m) m ρ main
    (hbody := fun c => (body_obligation m c).toRRel) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- A buffer that no line writes and that is no array of the launch. -/
theorem tail_arg0 (c : Dev nD) (A) :
    StableHlo.after [hostOps1].flatten (Pipeline.withArrays (Val := Elt F) spec0 c (V0 m c) A) (Proc.devRef .tc main_arg0)
      = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem mem_rest (b : Ref sig .tc) (hs : b.isScoped = false) (ha : ∀ w, (spec0 w).arr.view.ref ≠ b) :
    b ∈ Pipeline.restRefsP sig Pipeline.Prefetch.none spec0 := by
  refine Finset.mem_sdiff.mpr ⟨Pipeline.mem_restRefs_of b hs ha, ?_⟩
  simp only [Finset.mem_image, not_exists]
  exact fun k => k.elim0

variable {m} in
/-- The contents of a buffer that the lines after the launch write. -/
theorem EndsAt.arr_in {c : Dev nD} {s} (h : EndsAt cfgs 0 (rdats m) (V0 m) [hostOps1].flatten c s) (w : Fin cfg0.W)
    (hw : (cfg0.win w).isOut = false) : s.mem ((cfg0.win w).arr.view.loc (c.tc : Thread nD τ)) = V m c (Pipeline.arrRef spec0 w) := by
  have h1 := h.1 w
  rw [RDat.ArrAt_in (rdats m c) w hw] at h1
  exact h1.trans (A_eq m c w)

variable {m} in
theorem EndsAt.args {c : Dev nD} {s} (h : EndsAt cfgs 0 (rdats m) (V0 m) [hostOps1].flatten c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) := by
  refine ⟨?_, (EndsAt.arr_in h 0 rfl).trans (V_main_arg1 m c), (EndsAt.arr_in h 1 rfl).trans (V_main_arg2 m c),
    (EndsAt.arr_in h 2 rfl).trans (V_main_arg3 m c), (EndsAt.arr_in h 3 rfl).trans (V_main_arg4 m c)⟩
  obtain ⟨A, -, hA⟩ := h.2
  exact (hA main_arg0 (mem_rest _ (by decide) (by decide))).trans (tail_arg0 m c A)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => EndsAt.args (h.1 c), h.2⟩) (run_ends m ρ)

end Cert.KernelIdeal.Hand

end
-- ==== Proof.Arrays.lean ====
/- What the four results hold when the launch ends. -/
module

public import proofs.«01_k».proof.Proof.Ends
public import Idealize.ShloMosaic.Lib.Pipeline.ArrRel
public import Idealize.ShloMosaic.Lib.Pipeline.ValueKit
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat RDat)
open Idealize.SL Idealize.SL.RA Idealize.SL.BI Idealize.SL.Sem
open Idealize.ShloMosaic.Rounds

variable {F : FTy → Type} [FloatOps F] [Named F]

/-! ## The block where the mask is applied -/

theorem pay7_apply (s : Vec F S1x384 .f32) (x : Vec F S1x28x224x384 .f32) (y : S1x28x224x384.Idx) :
    k0_pay7 s x y = FloatOps.mulf (x y) (s (ix2 (0 : Fin 1) (y 3 : Fin 384))) := by
  pointwise [k0_pay7, k0_pay6, k0_pay5]

theorem pay8_apply (s : Vec F S1x384 .f32) (x : Vec F S1x28x224x384 .f32) (y : S1x28x224x384.Idx) :
    k0_pay8 s x y = FloatOps.subf (x y) (FloatOps.mulf (x y) (s (ix2 (0 : Fin 1) (y 3 : Fin 384)))) := by
  pointwise [k0_pay8, k0_pay6, k0_pay5]

/-! ## The windows -/

theorem flush5 : ∀ t : Fin cfg0.N, (cfg0.win 5).flush t = true → 8 ≤ t.val % 16 :=
  (by decide +kernel : ∀ t : Fin grid0.N, win0_5.flush t = true → 8 ≤ t.val % 16)
theorem flush6 : ∀ t : Fin cfg0.N, (cfg0.win 6).flush t = true → 8 ≤ t.val % 16 :=
  (by decide +kernel : ∀ t : Fin grid0.N, win0_6.flush t = true → 8 ≤ t.val % 16)

theorem idx4 : ∀ t : Fin cfg0.N, 8 ≤ t.val % 16 → win0_4.index t = ![t.val / 16, t.val % 16 - 8, 0, 0] :=
  (by decide +kernel : ∀ t : Fin grid0.N, 8 ≤ t.val % 16 → win0_4.index t = ![t.val / 16, t.val % 16 - 8, 0, 0])
theorem idx4_sum : ∀ t : Fin cfg0.N, t.val % 16 < 8 → win0_4.index t = ![t.val / 16, t.val % 16, 0, 0] :=
  (by decide +kernel : ∀ t : Fin grid0.N, t.val % 16 < 8 → win0_4.index t = ![t.val / 16, t.val % 16, 0, 0])
theorem idx5 : ∀ t : Fin cfg0.N, 8 ≤ t.val % 16 → win0_5.index t = ![t.val / 16, t.val % 16 - 8, 0, 0] :=
  (by decide +kernel : ∀ t : Fin grid0.N, 8 ≤ t.val % 16 → win0_5.index t = ![t.val / 16, t.val % 16 - 8, 0, 0])
theorem idx6 : ∀ t : Fin cfg0.N, 8 ≤ t.val % 16 → win0_6.index t = ![t.val / 16, t.val % 16 - 8, 0, 0] :=
  (by decide +kernel : ∀ t : Fin grid0.N, 8 ≤ t.val % 16 → win0_6.index t = ![t.val / 16, t.val % 16 - 8, 0, 0])

variable (m : (ℓ : Loc nD τ sig) → Buf (Elt F) ℓ)

/-- The transposed features. -/
def xT (c : Dev nD) : Vec F S4x224x224x384 .f32 := V m c main_v0

/-- The block of a summing point, -/
theorem xblk_sum (c : Dev nD) (b j : ℕ) (hb : b < 4) (hj : j < 8) (p : Fin 28) (q : Fin 224) (k : Fin 384) :
    xblk m c (16 * b + j) (ix4 (0 : Fin 1) p q k) = xT m c (ix4 (⟨b, hb⟩ : Fin 4) (⟨28 * j + p.val, by omega⟩ : Fin 224) q k) := by
  have hN : 16 * b + j < cfg0.N := lt_of_lt_of_eq (by omega) N_0.symm
  rw [← iblk_eq_xblk m c ⟨16 * b + j, hN⟩]
  unfold iblk xT
  refine congrArg (V m c main_v0) ?_
  have e := idx4_sum ⟨16 * b + j, hN⟩ (by show (16 * b + j) % 16 < 8; omega)
  blk_ext [e]

theorem arr5_of (c : Dev nD) (G) (h : (rdats m c).ArrAt 5 cfg0.N G) :
    G = (fun i => FloatOps.mulf (xT m c i) (keptRow m c (i 0).val (ix2 (0 : Fin 1) (i 3 : Fin 384))) : Vec F S4x224x224x384 .f32) := by
  obtain ⟨X, hX, hA⟩ := h.exists_exact
  rw [hA (Function.update (fun _ _ _ => Classical.arbitrary _) 5 X) fun u _ _ => by rw [Function.update_self]]
  refine Dat.arrAt_eq_of_covers _ 5 _ (by decide +kernel) fun t hf y => ?_
  have hl := (dats m 0 c).toRRel_leaves (w := 5) rfl (hX t t.isLt hf)
  have h8 := flush5 t hf
  rw [RDat.withAfter_after, Function.update_self]
  rw [hl h8]
  have e4 := idx4 t h8
  have e5 := idx5 t h8
  blk_simp [e5]
  refine (pay7_apply _ _ _).trans ?_
  have hx : xblk m c t.val y = xT m c ((win0_5.blk t).view.emb y) := by
    rw [← iblk_eq_xblk m c t]
    unfold iblk xT
    refine congrArg (V m c main_v0) ?_
    blk_ext [e4, e5]
  have hs : ((win0_5.blk t).view.emb y 3 : Fin 384) = y 3 := by
    refine Fin.ext ?_
    blk_simp [e5]
  rw [hx, hs]

theorem arr6_of (c : Dev nD) (G) (h : (rdats m c).ArrAt 6 cfg0.N G) :
    G = (fun i => FloatOps.subf (xT m c i) (FloatOps.mulf (xT m c i) (keptRow m c (i 0).val (ix2 (0 : Fin 1) (i 3 : Fin 384)))) : Vec F S4x224x224x384 .f32) := by
  obtain ⟨X, hX, hA⟩ := h.exists_exact
  rw [hA (Function.update (fun _ _ _ => Classical.arbitrary _) 6 X) fun u _ _ => by rw [Function.update_self]]
  refine Dat.arrAt_eq_of_covers _ 6 _ (by decide +kernel) fun t hf y => ?_
  have hl := (dats m 0 c).toRRel_leaves (w := 6) rfl (hX t t.isLt hf)
  have h8 := flush6 t hf
  rw [RDat.withAfter_after, Function.update_self]
  rw [hl h8]
  have e4 := idx4 t h8
  have e6 := idx6 t h8
  blk_simp [e6]
  refine (pay8_apply _ _ _).trans ?_
  have hx : xblk m c t.val y = xT m c ((win0_6.blk t).view.emb y) := by
    rw [← iblk_eq_xblk m c t]
    unfold iblk xT
    refine congrArg (V m c main_v0) ?_
    blk_ext [e4, e6]
  have hs : ((win0_6.blk t).view.emb y 3 : Fin 384) = y 3 := by
    refine Fin.ext ?_
    blk_simp [e6]
  rw [hx, hs]

theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])

theorem arr7_of (c : Dev nD) (G) (h : (rdats m c).ArrAt 7 cfg0.N G) : G = softArr m c := by
  obtain ⟨X, hX, hA⟩ := h.exists_exact
  rw [hA (Function.update (fun _ _ _ => Classical.arbitrary _) 7 X) fun u _ _ => by rw [Function.update_self]]
  refine Dat.arrAt_eq_of_covers _ 7 _ (by decide +kernel) fun t hf y => ?_
  have hl := (dats m 0 c).toRRel_leaves (w := 7) rfl (hX t t.isLt hf)
  rw [RDat.withAfter_after, Function.update_self]
  have ht := (flush0_7 t).mp hf
  have htN : t.val < 64 := lt_of_lt_of_eq t.isLt N_0
  have e := idx7 t
  blk_simp [e]
  have hy : (win0_7.blk t).view.emb y = y := by
    funext a
    refine Fin.ext ?_
    fin_cases a <;> blk_simp [e]
  rw [hy]
  exact hl y (by have := (y 0).isLt; have : (y 0).val < 4 := this; omega)

theorem arr8_of (c : Dev nD) (G) (h : (rdats m c).ArrAt 8 cfg0.N G) : G = maskArr m c := by
  obtain ⟨X, hX, hA⟩ := h.exists_exact
  rw [hA (Function.update (fun _ _ _ => Classical.arbitrary _) 8 X) fun u _ _ => by rw [Function.update_self]]
  refine Dat.arrAt_eq_of_covers _ 8 _ (by decide +kernel) fun t hf y => ?_
  have hl := (dats m 0 c).toRRel_leaves (w := 8) rfl (hX t t.isLt hf)
  rw [RDat.withAfter_after, Function.update_self]
  have ht := (flush0_8 t).mp hf
  have htN : t.val < 64 := lt_of_lt_of_eq t.isLt N_0
  have e := idx8 t
  blk_simp [e]
  have hy : (win0_8.blk t).view.emb y = y := by
    funext a
    refine Fin.ext ?_
    fin_cases a <;> blk_simp [e]
  rw [hy]
  exact hl y (by have := (y 0).isLt; have : (y 0).val < 4 := this; omega)

/-! ## The results -/

theorem xT_apply (c : Dev nD) (i : S4x224x224x384.Idx) :
    xT m c i = m (c.tc.loc main_arg0) (ix4 (i 0 : Fin 4) (i 3 : Fin 384) (i 1 : Fin 224) (i 2 : Fin 224)) := by
  unfold xT V V0
  simp only [List.flatten_cons, List.flatten_nil, List.append_nil, hostOps0]
  after_results_simp
  pointwise

theorem ix4_self (i : S4x384x224x224.Idx) : ix4 (i 0 : Fin 4) (i 1 : Fin 384) (i 2 : Fin 224) (i 3 : Fin 224) = i := by
  funext a; fin_cases a <;> rfl

theorem xT_ix (c : Dev nD) (i : S4x384x224x224.Idx) :
    xT m c (ix4 (i 0 : Fin 4) (i 2 : Fin 224) (i 3 : Fin 224) (i 1 : Fin 384)) = m (c.tc.loc main_arg0) i :=
  (xT_apply m c _).trans (congrArg (m (c.tc.loc main_arg0)) (ix4_self i))

variable {m} {c : Dev nD} {s : MemSt nD τ sig (Elt F)}

theorem EndsAt.v1_2 (h : EndsAt cfgs 0 (rdats m) (V0 m) [hostOps1].flatten c s) :
    s.mem (c.tc.loc main_v1_2) = softArr m c := arr7_of m c _ (h.1 7)

theorem EndsAt.v2 (h : EndsAt cfgs 0 (rdats m) (V0 m) [hostOps1].flatten c s) :
    s.mem (c.tc.loc main_v2) = (fun i => FloatOps.mulf (m (c.tc.loc main_arg0) i) (keptRow m c (i 0).val (ix2 (0 : Fin 1) (i 1 : Fin 384))) : Vec F S4x384x224x224 .f32) := by
  obtain ⟨-, A, hA, hr⟩ := h
  rw [hr main_v2 (mem_rest main_v2 (by decide) (by decide))]
  have e := (Pipeline.withArrays_arr (cfgs 0).spec launch0.win.arr_inj c (V0 m c) A 5).trans (arr5_of m c _ (hA 5))
  simp only [List.flatten_cons, List.flatten_nil, List.append_nil, hostOps1]
  after_results_simp
  have ht : ∀ X : Vec F S4x224x224x384 .f32, Pipeline.withArrays (cfgs 0).spec c (V0 m c) A (Proc.tc.devRef main_v1_0) = X →
      transpose S4x384x224x224 [0, 3, 1, 2] (Pipeline.withArrays (cfgs 0).spec c (V0 m c) A (Proc.tc.devRef main_v1_0)) transposes_S4x224x224x384_S4x384x224x224_0_3_1_2
        = transpose S4x384x224x224 [0, 3, 1, 2] X transposes_S4x224x224x384_S4x384x224x224_0_3_1_2 := fun X e => by rw [e]
  refine (ht _ e).trans ?_
  funext i
  pointwise
  rw [xT_ix]

theorem EndsAt.v3 (h : EndsAt cfgs 0 (rdats m) (V0 m) [hostOps1].flatten c s) :
    s.mem (c.tc.loc main_v3) = (fun i => FloatOps.subf (m (c.tc.loc main_arg0) i) (FloatOps.mulf (m (c.tc.loc main_arg0) i) (keptRow m c (i 0).val (ix2 (0 : Fin 1) (i 1 : Fin 384)))) : Vec F S4x384x224x224 .f32) := by
  obtain ⟨-, A, hA, hr⟩ := h
  rw [hr main_v3 (mem_rest main_v3 (by decide) (by decide))]
  have e := (Pipeline.withArrays_arr (cfgs 0).spec launch0.win.arr_inj c (V0 m c) A 6).trans (arr6_of m c _ (hA 6))
  simp only [List.flatten_cons, List.flatten_nil, List.append_nil, hostOps1]
  after_results_simp
  have ht : ∀ X : Vec F S4x224x224x384 .f32, Pipeline.withArrays (cfgs 0).spec c (V0 m c) A (Proc.tc.devRef main_v1_1) = X →
      transpose S4x384x224x224 [0, 3, 1, 2] (Pipeline.withArrays (cfgs 0).spec c (V0 m c) A (Proc.tc.devRef main_v1_1)) transposes_S4x224x224x384_S4x384x224x224_0_3_1_2
        = transpose S4x384x224x224 [0, 3, 1, 2] X transposes_S4x224x224x384_S4x384x224x224_0_3_1_2 := fun X e => by rw [e]
  refine (ht _ e).trans ?_
  funext i
  pointwise
  rw [xT_ix]

theorem EndsAt.v4 (h : EndsAt cfgs 0 (rdats m) (V0 m) [hostOps1].flatten c s) :
    s.mem (c.tc.loc main_v4) = (fun i => maskArr m c (ix2 (i 0 : Fin 4) (i 1 : Fin 384)) : Vec F S4x384x1x1 .f32) := by
  obtain ⟨-, A, hA, hr⟩ := h
  rw [hr main_v4 (mem_rest main_v4 (by decide) (by decide))]
  have e := (Pipeline.withArrays_arr (cfgs 0).spec launch0.win.arr_inj c (V0 m c) A 8).trans (arr8_of m c _ (hA 8))
  simp only [List.flatten_cons, List.flatten_nil, List.append_nil, hostOps1]
  after_results_simp
  have ht : ∀ X : Vec F S4x384 .f32, Pipeline.withArrays (cfgs 0).spec c (V0 m c) A (Proc.tc.devRef main_v1_3) = X →
      shapeCast S4x384x1x1 (Pipeline.withArrays (cfgs 0).spec c (V0 m c) A (Proc.tc.devRef main_v1_3)) shapeCasts_S4x384_S4x384x1x1
        = shapeCast S4x384x1x1 X shapeCasts_S4x384_S4x384x1x1 := fun X e => by rw [e]
  refine (ht _ e).trans ?_
  funext i
  pointwise

end Cert.KernelIdeal.Hand

end
-- ==== Proof.Pool.lean ====
/- The channel sums: eight blocks of twenty-eight rows are the whole image. -/
module

public import proofs.«01_k».proof.Proof.Arrays

@[expose] public section

set_option maxRecDepth 16384

noncomputable section

namespace Cert.KernelIdeal.Hand

open Cert.KernelIdeal.Gen
open Idealize.ShloMosaic Idealize.ShloMosaic.TcCoe Idealize.ShloMosaic.Tactic

/-- The entries of a block that a channel's sum collects are the pairs of a row and a column. -/
theorem drop_eq_iff (k : Fin 384) (i : S28x224x384.Idx) :
    reduces_S28x224x384_S384.drop i = ix1 k ↔ ∃ pq : Fin 28 × Fin 224, ix3 pq.1 pq.2 k = i := by
  constructor
  · intro e
    refine ⟨(i 0, i 1), ?_⟩
    have e0 : (i 2).val = k.val := congrArg Fin.val (congrFun e 0)
    funext a
    refine Fin.ext ?_
    match a with
    | ⟨0, _⟩ => rfl
    | ⟨1, _⟩ => rfl
    | ⟨2, _⟩ => exact e0.symm
  · rintro ⟨pq, rfl⟩
    funext b
    refine Fin.ext ?_
    match b with
    | ⟨0, _⟩ => rfl

/-- The sum of one channel over one block. -/
theorem block_sum (v : S28x224x384.Idx → EReal) (k : Fin 384) :
    Ideal.reduceAdd reduces_S28x224x384_S384 v (ix1 k) = ∑ p : Fin 28, ∑ q : Fin 224, v (ix3 p q k) := by
  refine (Finset.sum_filter_eq_sum_of_fiber _ (fun pq : Fin 28 × Fin 224 => ix3 pq.1 pq.2 k)
    (fun _ _ e => Prod.ext (congrFun e 0) (congrFun e 1)) (drop_eq_iff k) v).trans ?_
  exact Fintype.sum_prod_type _

theorem pay1_apply (x : Vec Ideal S1x28x224x384 .f32) (k : Fin 384) :
    k0_pay1 x (ix2 (0 : Fin 1) k) = ∑ p : Fin 28, ∑ q : Fin 224, x (ix4 (0 : Fin 1) p q k) := by
  pointwise [k0_pay1]
  rw [block_sum]
  pointwise

theorem pay2_apply (a : Vec Ideal S1x384 .f32) (x : Vec Ideal S1x28x224x384 .f32) (k : Fin 384) :
    k0_pay2 a x (ix2 (0 : Fin 1) k) = a (ix2 (0 : Fin 1) k) + ∑ p : Fin 28, ∑ q : Fin 224, x (ix4 (0 : Fin 1) p q k) := by
  pointwise [k0_pay2]
  rw [block_sum]
  pointwise

/-- A sum over the rows, block by block. -/
theorem rows_eq (f : Fin 224 → EReal) :
    ∑ j : Fin 8, ∑ p : Fin 28, f ⟨28 * j.val + p.val, by omega⟩ = ∑ r : Fin 224, f r := by
  rw [← Fintype.sum_prod_type']
  refine Fintype.sum_equiv (finProdFinEquiv (m := 8) (n := 28)) _ f fun jp => congrArg f (Fin.ext ?_)
  show 28 * jp.1.val + jp.2.val = jp.2.val + 28 * jp.1.val
  omega

variable (m : (ℓ : Loc nD τ sig) → Buf (Elt Ideal) ℓ) (c : Dev nD)

/-- The features, as extended reals. -/
def feat : S4x384x224x224.Idx → EReal := m (c.tc.loc main_arg0)

/-- What block `j` of batch row `b` adds to channel `k`. -/
theorem block_add (b : Fin 4) (k : Fin 384) (j : ℕ) (hj : j < 8) :
    ∑ p : Fin 28, ∑ q : Fin 224, (show S1x28x224x384.Idx → EReal from xblk m c (16 * b.val + j)) (ix4 (0 : Fin 1) p q k)
      = ∑ p : Fin 28, ∑ q : Fin 224, feat m c (ix4 b k (⟨28 * j + p.val, by omega⟩ : Fin 224) q) :=
  Finset.sum_congr rfl fun p _ => Finset.sum_congr rfl fun q _ =>
    (xblk_sum m c b.val j b.isLt hj p q k).trans (xT_apply m c _)

/-- The running sum after block `n`. -/
theorem sums_apply (b : Fin 4) (k : Fin 384) : ∀ n : ℕ, (hn : n < 8) →
    sums m c b.val n (ix2 (0 : Fin 1) k) = ∑ j : Fin (n + 1), ∑ p : Fin 28, ∑ q : Fin 224,
      feat m c (ix4 b k (⟨28 * j.val + p.val, by have := j.isLt; omega⟩ : Fin 224) q)
  | 0, _ => by
    refine (pay1_apply _ k).trans ?_
    rw [Fin.sum_univ_one]
    exact block_add m c b k 0 (by omega)
  | n + 1, hn => by
    refine (pay2_apply _ _ k).trans ?_
    rw [sums_apply b k n (by omega), Fin.sum_univ_castSucc (n := n + 1)]
    exact congrArg₂ (· + ·) rfl (block_add m c b k (n + 1) hn)

/-- The sum over the whole image. -/
theorem sums_total (b : Fin 4) (k : Fin 384) :
    sums m c b.val 7 (ix2 (0 : Fin 1) k) = ∑ r : Fin 224, ∑ q : Fin 224, feat m c (ix4 b k r q) :=
  (sums_apply m c b k 7 (by omega)).trans (rows_eq fun r => ∑ q : Fin 224, feat m c (ix4 b k r q))

end Cert.KernelIdeal.Hand

end
-- ==== Proof.Soft.lean ====
/- The soft result: both programs compute the same two layers of the channel means. -/
module

public import proofs.«01_k».proof.Proof.Pool
public import proofs.«01_k».proof.Proof.Gen.ReferenceIdeal.Read

@[expose] public section

set_option maxRecDepth 16384

noncomputable section

namespace Cert.KernelIdeal.Hand

open Cert.KernelIdeal.Gen
open Cert.ReferenceIdeal.Read
open Idealize.ShloMosaic Idealize.ShloMosaic.TcCoe Idealize.ShloMosaic.Tactic

/-! ## The two layers -/

/-- The two layers on a row of channel means. -/
def layers (μ : Fin 384 → EReal) (w1 w2 : S384x384.Idx → EReal) (b1 b2 : S384.Idx → EReal) (k : Fin 384) : EReal :=
  Ideal.logistic (∑ j : Fin 384, max (∑ i : Fin 384, μ i * w1 (ix2 j i) + b1 (ix1 j)) 0 * w2 (ix2 k j) + b2 (ix1 k))

/-- The kernel's reciprocal of the number of pixels. -/
theorem inv_hw_value : (Named.named (F := Ideal) (φ := .f32) κ "inv_hw" 933703429#32 : Ideal .f32) = ((50176⁻¹ : ℝ) : EReal) :=
  IdealRules.named_const.ideal_named_scalar _ _ _ _ rfl

/-- The reference's number of pixels. -/
theorem hw_value : Ideal.ofBits FTy.f32 1195638784#32 = ((50176 : ℝ) : EReal) := by
  simp [Ideal.ofBits, Ideal.ieee, -EReal.coe_mul]; norm_num

/-- Dividing by the number of pixels is multiplying by its reciprocal. -/
theorem mean_eq (x : EReal) : Ideal.div x (Ideal.ofBits FTy.f32 1195638784#32) = x * ((50176⁻¹ : ℝ) : EReal) := by
  rw [hw_value]
  rw [Ideal.div_coe (by norm_num), one_div]

theorem pay9_apply (a : Vec Ideal S1x384 .f32) (w1 w2 : Vec Ideal S384x384 .f32) (b1 b2 : Vec Ideal S384 .f32) (k : Fin 384) :
    k0_pay9 a w1 b1 w2 b2 (ix2 (0 : Fin 1) k)
      = layers (fun i => (show S1x384.Idx → EReal from a) (ix2 (0 : Fin 1) i) * ((50176⁻¹ : ℝ) : EReal)) w1 w2 b1 b2 k := by
  unfold layers
  pointwise [k0_pay9]
  rw [inv_hw_value]

theorem pay10_apply (a : Vec Ideal S1x384 .f32) (w1 w2 : Vec Ideal S384x384 .f32) (b1 b2 : Vec Ideal S384 .f32) (k : Fin 384) :
    k0_pay10 a w1 b1 w2 b2 (ix2 (0 : Fin 1) k) = k0_pay9 a w1 b1 w2 b2 (ix2 (0 : Fin 1) k) := by
  pointwise [k0_pay10]

/-! ## The reference's indices -/

theorem lid4 (b : Fin 4) (k x y : Fin 384) : lidx_main_v4 (lidx_main_v11 (ix2 b k) x) y = ix2 b y := by
  funext a; fin_cases a <;> rfl
theorem rid4 (b : Fin 4) (k x y : Fin 384) : idx_main_v3 (ridx_main_v4 (lidx_main_v11 (ix2 b k) x) y) = ix2 x y := by
  funext a; fin_cases a <;> rfl
theorem rid11 (b : Fin 4) (k x : Fin 384) : idx_main_v10 (ridx_main_v11 (ix2 b k) x) = ix2 k x := by
  funext a; fin_cases a <;> rfl
theorem bid1 (b : Fin 4) (k x : Fin 384) : idx_main_v5 (idx_main_v6 (lidx_main_v11 (ix2 b k) x)) = ix1 x := by
  funext a; fin_cases a <;> rfl
theorem bid2 (b : Fin 4) (k : Fin 384) : idx_main_v12 (idx_main_v13 (ix2 b k)) = ix1 k := by
  funext a; fin_cases a <;> rfl

theorem ref_pool (x : Vec Ideal Cert.ReferenceIdeal.S4x384x224x224 .f32) (b : Fin 4) (k : Fin 384) :
    val_main_v0 x (ix2 b k) = ∑ p : Fin 224, ∑ q : Fin 224, (show Cert.ReferenceIdeal.S4x384x224x224.Idx → EReal from x) (ix4 b k p q) := by
  pointwise [val_main_v0, val_main_cst]

/-- The reference's soft result. -/
theorem ref_soft (x0 : Vec Ideal Cert.ReferenceIdeal.S4x384x224x224 .f32) (x1 : Vec Ideal Cert.ReferenceIdeal.S384x384 .f32)
    (x2 : Vec Ideal Cert.ReferenceIdeal.S384 .f32) (x3 : Vec Ideal Cert.ReferenceIdeal.S384x384 .f32) (x4 : Vec Ideal Cert.ReferenceIdeal.S384 .f32)
    (b : Fin 4) (k : Fin 384) : val_main_v20 (F := Ideal) x0 x1 x2 x3 x4 (ix2 b k)
      = layers (fun i => (∑ p : Fin 224, ∑ q : Fin 224, (show Cert.ReferenceIdeal.S4x384x224x224.Idx → EReal from x0) (ix4 b i p q)) * ((50176⁻¹ : ℝ) : EReal)) x1 x3 x2 x4 k := by
  rw [val_main_v20_apply, val_main_v18_apply, val_main_v16_apply, val_main_v15_apply, val_main_v14_apply, val_main_v11_apply,
    val_main_v13_apply, val_main_v12_apply, val_main_v19_apply, val_main_v17_apply]
  simp only [val_main_v9_apply, val_main_v10_apply, val_main_v7_apply, val_main_v4_apply, val_main_v6_apply, val_main_v5_apply,
    val_main_v8_apply, val_main_v3_apply, val_main_v2_apply, val_main_v1_apply]
  pointwise [val_main_cst_0, val_main_cst_1, val_main_cst_2, val_main_cst_3]
  simp only [lid4, rid4, rid11, bid1, bid2, mean_eq, ref_pool]
  rfl

/-! ## The two results -/

variable (m : (ℓ : Loc nD τ sig) → Buf (Elt Ideal) ℓ) (c : Dev nD)

/-- The reference's soft result on this program's inputs. -/
def soft : Vec Ideal S4x384 .f32 :=
  val_main_v20 (F := Ideal) (m (c.tc.loc main_arg0)) (m (c.tc.loc main_arg1)) (m (c.tc.loc main_arg2)) (m (c.tc.loc main_arg3)) (m (c.tc.loc main_arg4))

theorem row_eq (b : Fin 4) (k : Fin 384) :
    k0_pay9 (sums m c b.val 7) (w1 m c) (b1 m c) (w2 m c) (b2 m c) (ix2 (0 : Fin 1) k) = soft m c (ix2 b k) := by
  rw [pay9_apply]
  unfold soft
  rw [ref_soft]
  unfold w1 b1 w2 b2
  rw [V_main_arg1, V_main_arg2, V_main_arg3, V_main_arg4]
  refine congrArg (fun μ => layers μ _ _ _ _ k) (funext fun i => ?_)
  exact congrArg (· * ((50176⁻¹ : ℝ) : EReal)) (sums_total m c b i)

theorem softArr_eq : softArr m c = soft m c := by
  funext y
  have hy : y = ix2 (y 0 : Fin 4) (y 1 : Fin 384) := by funext a; fin_cases a <;> rfl
  refine Eq.trans ?_ (congrArg (soft m c) hy.symm)
  exact (pay10_apply _ _ _ _ _ _).trans (row_eq m c (y 0) (y 1))

end Cert.KernelIdeal.Hand

end
-- ==== Proof.Rank.lean ====
/- A stable descending sort and the rank it gives: an entry lies among the first `K` of the sort when fewer than
   `K` entries are before it. -/
module

public import Idealize.ShloMosaic.Lib.SortPrefix
public import Mathlib.Data.EReal.Basic

@[expose] public section

namespace Cert.KernelIdeal.Hand

open Idealize.ShloMosaic

variable {n : ℕ}

/-- Entry `k` is greater than entry `k'`. -/
noncomputable def greater (s : Fin n → EReal) (k k' : Fin n) : Bool := decide (s k' < s k)

/-- Entry `k` is greater, or equal and earlier. -/
noncomputable def ahead (s : Fin n → EReal) (k k' : Fin n) : Bool :=
  decide (s k' < s k) || (decide (s k = s k') && decide (k < k'))

theorem ahead_iff (s : Fin n → EReal) (k k' : Fin n) : ahead s k k' = true ↔ s k' < s k ∨ (s k = s k' ∧ k < k') := by
  unfold ahead
  simp only [Bool.or_eq_true, Bool.and_eq_true, decide_eq_true_eq]

/-- `ahead` orders the positions. -/
theorem ahead_total (s : Fin n → EReal) : StrictTotalBefore (ahead s) := by
  classical
  have h := StrictTotalBefore.of_key_then_position (fun a b : EReal => decide (b < a)) s (fun a => by simp)
    (fun a b c hab hbc => by simp only [decide_eq_true_eq] at *; exact lt_trans hbc hab)
    (fun a b => by simp only [decide_eq_true_eq]; rcases lt_trichotomy a b with h | h | h <;> simp [h])
  refine (congrArg StrictTotalBefore (funext fun k => funext fun k' => ?_)).mp h
  unfold ahead
  simp only [decide_eq_decide]

/-- Sorting an increasing list, an insertion compares its element with later ones alone, so a tie keeps the earlier first. -/
theorem stableSort_greater (s : Fin n → EReal) : ∀ l : List (Fin n), l.Pairwise (· < ·) →
    stableSort (greater s) l = stableSort (ahead s) l
  | [], _ => rfl
  | a :: l, h => by
    rw [List.pairwise_cons] at h
    unfold stableSort
    rw [stableSort_greater s l h.2]
    refine insertBefore_congr _ _ a _ fun b hb => ?_
    have hab : a < b := h.1 b ((perm_stableSort _ l).mem_iff.mp hb)
    unfold greater ahead
    rw [decide_eq_false (p := b < a) (not_lt.mpr hab.le), Bool.and_false, Bool.or_false]

theorem sortedFrom_greater (s : Fin n → EReal) : sortedFrom (greater s) = sortedFrom (ahead s) := by
  have e : sortPositions n (greater s) = sortPositions n (ahead s) :=
    stableSort_greater s _ (List.pairwise_lt_finRange n)
  funext k
  unfold sortedFrom
  rw [List.get_of_eq e]
  rfl

/-- The sort's positions are ordered by `ahead`. -/
theorem ahead_sorted (s : Fin n → EReal) (i j : Fin n) : ahead s (sortedFrom (ahead s) i) (sortedFrom (ahead s) j) = true ↔ i < j := by
  have hB := ahead_total s
  have hn : ∀ i j : Fin n, i < j → ahead s (sortedFrom (ahead s) j) (sortedFrom (ahead s) i) = false := fun i j hij =>
    sortedFrom_noInversion _ _ hB.asymm (fun _ _ h => h) hB.negTrans i j hij
  constructor
  · intro h
    rcases lt_trichotomy i j with h1 | h1 | h1
    · exact h1
    · rw [h1, hB.irrefl] at h; exact absurd h (by decide)
    · rw [hn j i h1] at h; exact absurd h (by decide)
  · intro h
    rcases hB.total (sortedFrom (ahead s) i) (sortedFrom (ahead s) j) (fun e => h.ne (sortedFrom_injective _ e)) with h1 | h1
    · exact h1
    · rw [hn i j h] at h1; exact absurd h1 (by decide)

/-- The number of entries before the sort's `r`-th is `r`. -/
theorem rank_sorted (s : Fin n → EReal) (r : Fin n) :
    (Finset.univ.filter fun j => ahead s j (sortedFrom (ahead s) r) = true).card = r.val := by
  have e : (Finset.univ.filter fun j => ahead s j (sortedFrom (ahead s) r) = true) = (Finset.Iio r).map ⟨_, sortedFrom_injective (ahead s)⟩ := by
    ext j
    simp only [Finset.mem_filter, Finset.mem_univ, true_and, Finset.mem_map, Finset.mem_Iio, Function.Embedding.coeFn_mk]
    obtain ⟨i, rfl⟩ := sortedFrom_surjective (ahead s) j
    rw [ahead_sorted]
    exact ⟨fun h => ⟨i, h, rfl⟩, fun ⟨i', h, hi⟩ => (sortedFrom_injective _ hi) ▸ h⟩
  rw [e, Finset.card_map, Fin.card_Iio]

/-- An entry is among the first `K` of the sort when fewer than `K` entries are before it. -/
theorem among_first_iff (s : Fin n → EReal) (K : ℕ) (x : Fin n) :
    (∃ r : Fin n, r.val < K ∧ sortedFrom (greater s) r = x) ↔ (Finset.univ.filter fun j => ahead s j x = true).card < K := by
  rw [sortedFrom_greater]
  obtain ⟨r, rfl⟩ := sortedFrom_surjective (ahead s) x
  rw [rank_sorted]
  exact ⟨fun ⟨r', h, e⟩ => (sortedFrom_injective _ e) ▸ h, fun h => ⟨r, h, rfl⟩⟩

end Cert.KernelIdeal.Hand
-- ==== Proof.MaskKernel.lean ====
/- The mask the kernel computes: one where fewer than 268 entries of the row are ahead. -/
module

public import proofs.«01_k».proof.Proof.Soft
public import proofs.«01_k».proof.Proof.Rank

@[expose] public section

set_option maxRecDepth 16384

noncomputable section

namespace Cert.KernelIdeal.Hand

open Cert.KernelIdeal.Gen
open Idealize.ShloMosaic Idealize.ShloMosaic.TcCoe Idealize.ShloMosaic.Tactic

/-- One where the proposition holds, else zero. -/
def indicator (p : Prop) [Decidable p] : EReal := if p then 1 else 0

/-- Adding up ones and zeros as words counts the ones. -/
theorem fold_count {ι : Type} [DecidableEq ι] (p : ι → Prop) [DecidablePred p] (S : Finset ι) :
    Finset.fold IntOp.addi (0#32) (fun x => if p x then 1#32 else 0#32) S = BitVec.ofNat 32 (S.filter p).card := by
  induction S using Finset.induction_on with
  | empty => rfl
  | insert a S ha ih =>
    rw [Finset.fold_insert ha, ih, Finset.filter_insert]
    by_cases h : p a
    · rw [if_pos h, if_pos h, Finset.card_insert_of_notMem fun hm => ha (Finset.mem_filter.mp hm).1, Nat.add_comm, BitVec.ofNat_add]
      rfl
    · rw [if_neg h, if_neg h]
      exact BitVec.zero_add _

/-- The word the kernel adds for entry `x` against entry `k`. -/
theorem word_ahead (s : Fin 384 → EReal) (x k : Fin 384) :
    BitVec.setWidth 32 (IntOp.ori (BitVec.ofBool (decide (s k < s x))) (IntOp.andi (BitVec.ofBool (decide (s x = s k)))
      (IntOp.cmpi CmpIPredicate.slt (BitVec.ofNat 32 x.val) (BitVec.ofNat 32 k.val)))) = if ahead s x k = true then 1#32 else 0#32 := by
  have hc : IntOp.cmpi CmpIPredicate.slt (BitVec.ofNat 32 x.val) (BitVec.ofNat 32 k.val) = BitVec.ofBool (decide (x < k)) := by
    have hx := x.isLt
    have hk := k.isLt
    exact WordCmp.cmpi_slt_ofNat (w := 32) (by omega) (by omega)
  rw [hc]
  unfold ahead
  cases decide (s k < s x) <;> cases decide (s x = s k) <;> cases decide (x < k) <;> rfl

theorem sitofp_one : (FloatOps.sitofp (F := Ideal) FTy.f32 (1#32)) = (1 : EReal) := by
  show (((1#32 : BitVec 32).toInt : ℝ) : EReal) = 1
  norm_num
theorem sitofp_zero : (FloatOps.sitofp (F := Ideal) FTy.f32 (0#32)) = (0 : EReal) := by
  show (((0#32 : BitVec 32).toInt : ℝ) : EReal) = 0
  norm_num

/-- The test against the threshold, as a float. -/
theorem word_test (c : ℕ) (hc : c ≤ 384) :
    FloatOps.sitofp (F := Ideal) FTy.f32 (BitVec.setWidth 32 (IntOp.cmpi CmpIPredicate.slt (BitVec.ofNat 32 c) 268#32)) = indicator (c < 268) := by
  have e : IntOp.cmpi CmpIPredicate.slt (BitVec.ofNat 32 c) 268#32 = BitVec.ofBool (decide (c < 268)) :=
    WordCmp.cmpi_slt_ofNat (w := 32) (by omega) (by omega)
  rw [e]
  unfold indicator
  by_cases h : c < 268
  · rw [if_pos h, decide_eq_true h]
    exact sitofp_one
  · rw [if_neg h, decide_eq_false h]
    exact sitofp_zero

theorem pay11_apply (a : Vec Ideal S1x384 .f32) (w1 w2 : Vec Ideal S384x384 .f32) (b1 b2 : Vec Ideal S384 .f32) (k : Fin 384) :
    k0_pay11 a w1 b1 w2 b2 (ix1 k) = indicator ((Finset.univ.filter fun j => ahead
      (fun j : Fin 384 => (show S1x384.Idx → EReal from k0_pay9 a w1 b1 w2 b2) (ix2 (0 : Fin 1) j)) j k = true).card < 268) := by
  unfold k0_pay11
  generalize k0_pay9 a w1 b1 w2 b2 = v
  pointwise
  have e : ∀ x : Fin 384, _ := fun x => word_ahead (fun j : Fin 384 => (show S1x384.Idx → EReal from v) (ix2 (0 : Fin 1) j)) x k
  refine Eq.trans ?_ (word_test _ ((Finset.card_le_univ _).trans (Fintype.card_fin 384).le))
  rw [← fold_count]
  simp only [← e]
  rfl

/-! ## The arrays -/

theorem pay4_pay11 (v : FVec Ideal S384 .f32) (k : Fin 384) : k0_pay4 v (ix2 (0 : Fin 1) k) = v (ix1 k) := by
  pointwise [k0_pay4]

theorem pay3_pay12 (a : Vec Ideal S1x384 .f32) (w1 w2 : Vec Ideal S384x384 .f32) (b1 b2 : Vec Ideal S384 .f32) (k : Fin 384) :
    k0_pay3 (k0_pay12 a w1 b1 w2 b2) (ix2 (0 : Fin 1) k) = k0_pay11 a w1 b1 w2 b2 (ix1 k) := by
  pointwise [k0_pay3, k0_pay12]

variable (m : (ℓ : Loc nD τ sig) → Buf (Elt Ideal) ℓ) (c : Dev nD)

/-- Entry `k` of batch row `b` has fewer than 268 entries ahead of it. -/
def kept (b : Fin 4) (k : Fin 384) : Prop :=
  (Finset.univ.filter fun j => ahead (fun j : Fin 384 => (show S4x384.Idx → EReal from soft m c) (ix2 b j)) j k = true).card < 268

instance (b : Fin 4) (k : Fin 384) : Decidable (kept m c b k) := inferInstanceAs (Decidable (_ < _))

theorem pay11_row (b : Fin 4) (k : Fin 384) :
    k0_pay11 (sums m c b.val 7) (w1 m c) (b1 m c) (w2 m c) (b2 m c) (ix1 k) = indicator (kept m c b k) := by
  rw [pay11_apply]
  have e : (fun j : Fin 384 => (show S1x384.Idx → EReal from k0_pay9 (sums m c b.val 7) (w1 m c) (b1 m c) (w2 m c) (b2 m c)) (ix2 (0 : Fin 1) j))
      = fun j : Fin 384 => (show S4x384.Idx → EReal from soft m c) (ix2 b j) := funext fun j => row_eq m c b j
  unfold kept
  simp only [e]

theorem maskRow_apply (b : Fin 4) (k : Fin 384) : maskRow m c b.val (ix2 (0 : Fin 1) k) = indicator (kept m c b k) :=
  (pay4_pay11 _ k).trans (pay11_row m c b k)

theorem keptRow_apply (b : Fin 4) (k : Fin 384) : keptRow m c b.val (ix2 (0 : Fin 1) k) = indicator (kept m c b k) :=
  (pay3_pay12 _ _ _ _ _ k).trans (pay11_row m c b k)

theorem maskArr_apply (b : Fin 4) (k : Fin 384) : maskArr m c (ix2 b k) = indicator (kept m c b k) :=
  maskRow_apply m c b k

end Cert.KernelIdeal.Hand

end
-- ==== Proof.MaskRef.lean ====
/- The mask the reference computes: ones scattered at the first 268 positions of the sort. -/
module

public import proofs.«01_k».proof.Proof.MaskKernel
public import Idealize.ShloMosaic.Lib.Routing.OpsPair
public import Idealize.ShloMosaic.Lib.Routing.OpsSet

@[expose] public section

set_option maxRecDepth 16384

noncomputable section

namespace Cert.KernelIdeal.Hand

open Cert.ReferenceIdeal
open Cert.ReferenceIdeal.Read
open Idealize.ShloMosaic Idealize.ShloMosaic.TcCoe Idealize.ShloMosaic.Tactic

/-- Moving along a row. -/
theorem along_ix2 (b : Fin 4) (j k : Fin 384) : (Shape.Idx.along (s := S4x384) (ix2 b j) (1 : Fin 2) k) = ix2 b k := by
  funext a; fin_cases a <;> rfl

/-- What a sort of a row with a companion does to the companion. -/
theorem sort2_pos {α : Type} (gt : α → α → BitVec 1) (v : S4x384.Idx → α) (w : IVec S4x384 32) (b : Fin 4) (j : Fin 384) :
    (Host.sort2 S4x384 1 (fun l r => gt l.1 r.1) v w).2 (ix2 b j)
      = w (ix2 b (sortedFrom (fun k k' : Fin 384 => gt (v (ix2 b k)) (v (ix2 b k')) == 1#1) j)) := by
  unfold Host.sort2
  rw [dif_pos (show 1 < S4x384.rank by decide)]
  have h := fun q : Fin 384 → Fin 384 → Bool => along_ix2 b j (sortedFrom q j)
  dsimp only
  refine (congrArg w (h _)).trans ?_
  refine congrArg (fun q => w (ix2 b (sortedFrom q j))) ?_
  funext k k'
  exact congrArg₂ (fun x y => gt (v x) (v y) == 1#1) (along_ix2 b j k) (along_ix2 b j k')

/-- The positions that the reference keeps of a row. -/
theorem topK_pos {α : Type} (gt : α → α → BitVec 1) (v : S4x384.Idx → α) (h) (b : Fin 4) (r : Fin 268) :
    (Host.topK S4x268 1 gt v h).2 (ix2 b r)
      = BitVec.ofNat 32 (sortedFrom (fun k k' : Fin 384 => gt (v (ix2 b k)) (v (ix2 b k')) == 1#1) (⟨r.val, by omega⟩ : Fin 384)).val := by
  unfold Host.topK
  dsimp only
  pointwise
  rw [sort2_pos]
  rfl

variable (x0 : Vec Ideal S4x384x224x224 .f32) (x1 : Vec Ideal S384x384 .f32)
    (x2 : Vec Ideal S384 .f32) (x3 : Vec Ideal S384x384 .f32) (x4 : Vec Ideal S384 .f32)

/-- Batch row `b` of the reference's soft result. -/
def softOf (b : Fin 4) (j : Fin 384) : EReal := (show S4x384.Idx → EReal from val_main_v20 (F := Ideal) x0 x1 x2 x3 x4) (ix2 b j)

/-- Comparing by the total order is comparing extended reals. -/
theorem gt_word (a b : EReal) : ((FloatOps.cmpfTotal (F := Ideal) (φ := .f32) CmpDirection.gt a b) == 1#1) = decide (b < a) := by
  show (BitVec.ofBool (decide (b < a)) == 1#1) = decide (b < a)
  cases decide (b < a) <;> rfl

/-- The position of the sort's `r`-th entry. -/
theorem indices_apply (b : Fin 4) (r : Fin 268) :
    val_main_indices (F := Ideal) x0 x1 x2 x3 x4 (ix2 b r)
      = BitVec.ofNat 32 (sortedFrom (greater (softOf x0 x1 x2 x3 x4 b)) (⟨r.val, by omega⟩ : Fin 384)).val := by
  unfold val_main_indices softOf
  generalize val_main_v20 (F := Ideal) x0 x1 x2 x3 x4 = v
  rw [topK_pos]
  refine congrArg (fun q => BitVec.ofNat 32 (sortedFrom q (⟨r.val, by omega⟩ : Fin 384)).val) ?_
  funext k k'
  exact gt_word _ _

/-- The first index word of a scattered one: the batch row. -/
theorem v37_0 (b : Fin 4) (r : Fin 268) : val_main_v37 (F := Ideal) x0 x1 x2 x3 x4 (ix3 b r (0 : Fin 2)) = BitVec.ofNat 32 b.val := by
  unfold val_main_v37
  pointwise
  rw [val_main_v35_apply, val_main_v34_apply, val_main_v28_apply, val_main_v25_apply, val_main_v24_apply, val_main_c_apply]
  refine (Routing.wrap_of_lt _ _ ?_).trans rfl
  rw [val_main_v23_apply, val_main_v22_apply, WordCmp.toNat_ofNat_of_lt]
  all_goals
    have hb : (((idx_main_v23 (idx_main_v34 (idx_main_v35 (ix3 b r 0)))) 0 : Fin 4) : ℕ) < 4 := Fin.isLt _
    omega

/-- The second: the position. -/
theorem v37_1 (b : Fin 4) (r : Fin 268) : val_main_v37 (F := Ideal) x0 x1 x2 x3 x4 (ix3 b r (1 : Fin 2))
    = BitVec.ofNat 32 (sortedFrom (greater (softOf x0 x1 x2 x3 x4 b)) (⟨r.val, by omega⟩ : Fin 384)).val := by
  have hi : idx_main_v36 (ix3 b r (0 : Fin 1)) = ix2 b r := by funext a; fin_cases a <;> rfl
  unfold val_main_v37
  pointwise
  rw [val_main_v36_apply, hi, val_main_v33_apply, val_main_v30_apply, val_main_v29_apply, val_main_c_6_apply]
  rw [Routing.wrap_of_lt, indices_apply]
  rw [indices_apply, WordCmp.toNat_ofNat_of_lt]
  all_goals
    have hb := (sortedFrom (greater (softOf x0 x1 x2 x3 x4 b)) (⟨r.val, by omega⟩ : Fin 384)).isLt
    omega

/-- Where the scattered one of position `r` of row `b'` lands. -/
theorem lands_iff (b' : Fin 4) (r : Fin 268) (b : Fin 4) (k : Fin 384) :
    scatter_S4x384_S4x268x2_S4x268_n_01_01_2.resultIdx? (ix2 b' r) (val_main_v37 (F := Ideal) x0 x1 x2 x3 x4) = some (ix2 b k)
      ↔ b' = b ∧ sortedFrom (greater (softOf x0 x1 x2 x3 x4 b')) (⟨r.val, by omega⟩ : Fin 384) = k := by
  refine (Routing.scatter_lands2 (w := 32) (R := 4) (C := 384) (A := 4) (B := 268) scatter_S4x384_S4x268x2_S4x268_n_01_01_2 rfl rfl rfl
    (val_main_v37 (F := Ideal) x0 x1 x2 x3 x4) b' r b k).trans ?_
  have e0 := v37_0 x0 x1 x2 x3 x4 b' r
  have e1 := v37_1 x0 x1 x2 x3 x4 b' r
  generalize sortedFrom (greater (softOf x0 x1 x2 x3 x4 b')) (⟨r.val, by omega⟩ : Fin 384) = p at e1 ⊢
  have h0 : (val_main_v37 (F := Ideal) x0 x1 x2 x3 x4 (ix3 b' r (0 : Fin 2))).toInt = (b'.val : ℤ) := by
    rw [e0]; exact WordCmp.toInt_ofNat_of_lt (w := 32) (by omega)
  have h1 : (val_main_v37 (F := Ideal) x0 x1 x2 x3 x4 (ix3 b' r (1 : Fin 2))).toInt = (p.val : ℤ) := by
    rw [e1]; exact WordCmp.toInt_ofNat_of_lt (w := 32) (by omega)
  refine (and_congr (Eq.congr_left h0) (Eq.congr_left h1)).trans ?_
  rw [Fin.ext_iff, Fin.ext_iff, Int.natCast_inj, Int.natCast_inj]

theorem ones_apply (i : S4x268.Idx) : val_main_v38 (F := Ideal) i = (1 : EReal) := by
  rw [val_main_v38_apply, val_main_cst_8_apply]
  pointwise

theorem zeros_apply (i : S4x384.Idx) : val_main_v21 (F := Ideal) i = (0 : EReal) := by
  rw [val_main_v21_apply, val_main_cst_4_apply]
  pointwise

/-- The reference's mask. -/
theorem v39_apply (b : Fin 4) (k : Fin 384) : val_main_v39 (F := Ideal) x0 x1 x2 x3 x4 (ix2 b k)
    = indicator ((Finset.univ.filter fun j => ahead (softOf x0 x1 x2 x3 x4 b) j k = true).card < 268) := by
  unfold val_main_v39 indicator
  have hiff := among_first_iff (softOf x0 x1 x2 x3 x4 b) 268 k
  by_cases h : (Finset.univ.filter fun j => ahead (softOf x0 x1 x2 x3 x4 b) j k = true).card < 268
  · rw [if_pos h]
    obtain ⟨r, hr, e⟩ := hiff.mpr h
    exact Routing.scatter_set_hit _ _ _ _ (ix2 b k) (1 : EReal) (fun _ _ => ones_apply _) (ix2 b (⟨r.val, hr⟩ : Fin 268))
      ((lands_iff x0 x1 x2 x3 x4 b ⟨r.val, hr⟩ b k).mpr ⟨rfl, e⟩)
  · rw [if_neg h]
    refine (Routing.scatter_set_miss _ _ _ _ (ix2 b k) fun i hi => ?_).trans (zeros_apply _)
    have ei : i = ix2 (i 0 : Fin 4) (i 1 : Fin 268) := by funext a; fin_cases a <;> rfl
    rw [ei] at hi
    obtain ⟨e0, e1⟩ := (lands_iff x0 x1 x2 x3 x4 (i 0) (i 1) b k).mp hi
    refine h (hiff.mp ⟨(⟨(i 1 : Fin 268).val, by have h268 : ((i 1 : Fin 268) : ℕ) < 268 := (i 1 : Fin 268).isLt; omega⟩ : Fin 384), (i 1 : Fin 268).isLt, ?_⟩)
    rw [← e1, e0]

end Cert.KernelIdeal.Hand

end
-- ==== Proof.Equation.lean ====
/- The four results: what the kernel ends holding is what the reference computes. -/
module

public import proofs.«01_k».proof.Proof.MaskRef

@[expose] public section

set_option maxRecDepth 16384

noncomputable section

namespace Cert.KernelIdeal.Hand

open Cert.ReferenceIdeal.Read
open Idealize.ShloMosaic Idealize.ShloMosaic.TcCoe Idealize.ShloMosaic.Tactic

variable (m : (ℓ : Loc nD τ sig) → Buf (Elt Ideal) ℓ) (c : Dev nD)

/-- The reference's mask at the kernel's arguments. -/
theorem ref_kept (b : Fin 4) (k : Fin 384) :
    val_main_v39 (F := Ideal) (m (c.tc.loc main_arg0)) (m (c.tc.loc main_arg1)) (m (c.tc.loc main_arg2)) (m (c.tc.loc main_arg3)) (m (c.tc.loc main_arg4)) (ix2 b k)
      = indicator (kept m c b k) :=
  v39_apply _ _ _ _ _ b k

theorem idx40 (i : S4x384x1x1.Idx) : idx_main_v40 i = ix2 (i 0 : Fin 4) (i 1 : Fin 384) := by
  have h0 : (i 0).val < 4 := (i 0).isLt
  have h1 : (i 1).val < 384 := (i 1).isLt
  have h2 : (i 2).val < 1 := (i 2).isLt
  have h3 : (i 3).val < 1 := (i 3).isLt
  funext a
  fin_cases a
  · refine Fin.ext ?_
    show ((((i 0).val * 384 + (i 1).val) * 1 + (i 2).val) * 1 + (i 3).val) / 384 = (i 0).val
    omega
  · refine Fin.ext ?_
    show ((((i 0).val * 384 + (i 1).val) * 1 + (i 2).val) * 1 + (i 3).val) % 384 = (i 1).val
    omega

theorem idx41 (i : S4x384x224x224.Idx) : idx_main_v40 (idx_main_v41 i) = ix2 (i 0 : Fin 4) (i 1 : Fin 384) := by
  rw [idx40]; funext a; fin_cases a <;> rfl

theorem idx45 (i : S4x384x224x224.Idx) : idx_main_v40 (idx_main_v45 i) = ix2 (i 0 : Fin 4) (i 1 : Fin 384) := by
  rw [idx40]; funext a; fin_cases a <;> rfl

theorem one_apply (i) : val_main_v43 (F := Ideal) i = (1 : EReal) := by
  rw [val_main_v43_apply, val_main_cst_9_apply]
  pointwise

/-- Keeping what the mask drops: the product with the complement is the difference. -/
theorem complement_eq (x : EReal) (hx : x ≠ ⊤ ∧ x ≠ ⊥) (p : Prop) [Decidable p] :
    x - x * indicator p = x * (1 - indicator p) := by
  unfold indicator
  by_cases h : p
  · have e : (1 : EReal) - 1 = 0 := EReal.sub_self (by decide) (by decide)
    rw [if_pos h, mul_one, e, mul_zero, EReal.sub_self hx.1 hx.2]
  · rw [if_neg h, mul_zero, sub_zero, sub_zero, mul_one]

theorem complement_kept (x : EReal) (hx : x ≠ ⊤ ∧ x ≠ ⊥) (b : Fin 4) (k : Fin 384) :
    x - x * indicator (kept m c b k) = x * (1 - indicator (kept m c b k)) :=
  complement_eq x hx _

/-- The masked features. -/
theorem causal_eq : (fun i => FloatOps.mulf (m (c.tc.loc main_arg0) i) (keptRow m c (i 0).val (ix2 (0 : Fin 1) (i 1 : Fin 384))) : Vec Ideal S4x384x224x224 .f32)
    = val_main_v42 (F := Ideal) (m (c.tc.loc main_arg0)) (m (c.tc.loc main_arg1)) (m (c.tc.loc main_arg2)) (m (c.tc.loc main_arg3)) (m (c.tc.loc main_arg4)) := by
  funext i
  rw [val_main_v42_apply, val_main_v41_apply, val_main_v40_apply, idx41]
  exact congrArg (FloatOps.mulf (F := Ideal) (φ := .f32) (m (c.tc.loc main_arg0) i)) ((keptRow_apply m c (i 0) (i 1)).trans (ref_kept m c (i 0) (i 1)).symm)

/-- The rest of the features, when none is infinite. -/
theorem rest_eq (hf : ∀ i, feat m c i ≠ ⊤ ∧ feat m c i ≠ ⊥) :
    (fun i => FloatOps.subf (m (c.tc.loc main_arg0) i) (FloatOps.mulf (m (c.tc.loc main_arg0) i) (keptRow m c (i 0).val (ix2 (0 : Fin 1) (i 1 : Fin 384)))) : Vec Ideal S4x384x224x224 .f32)
    = val_main_v46 (F := Ideal) (m (c.tc.loc main_arg0)) (m (c.tc.loc main_arg1)) (m (c.tc.loc main_arg2)) (m (c.tc.loc main_arg3)) (m (c.tc.loc main_arg4)) := by
  funext i
  rw [val_main_v46_apply, val_main_v45_apply, val_main_v44_apply, one_apply, val_main_v40_apply, idx45]
  refine Eq.trans (congrArg (fun z : EReal => feat m c i - feat m c i * z) (keptRow_apply m c (i 0) (i 1))) ?_
  exact (complement_kept m c (feat m c i) (hf i) (i 0) (i 1)).trans
    (congrArg (fun z : EReal => feat m c i * (1 - z)) (ref_kept m c (i 0) (i 1)).symm)

/-- The mask. -/
theorem mask_eq : (fun i => maskArr m c (ix2 (i 0 : Fin 4) (i 1 : Fin 384)) : Vec Ideal S4x384x1x1 .f32)
    = val_main_v40 (F := Ideal) (m (c.tc.loc main_arg0)) (m (c.tc.loc main_arg1)) (m (c.tc.loc main_arg2)) (m (c.tc.loc main_arg3)) (m (c.tc.loc main_arg4)) := by
  funext i
  rw [val_main_v40_apply, idx40]
  exact (maskArr_apply m c (i 0) (i 1)).trans (ref_kept m c (i 0) (i 1)).symm

end Cert.KernelIdeal.Hand

end
-- ==== Proof.Finite.lean ====
/- What the precondition says: no entry of the features is infinite. -/
module

public import proofs.«01_k».proof.Defs
public import proofs.«01_k».proof.Proof.Pool
public import Idealize.ShloMosaic.Lib.ReduceAll
public import Idealize.ShloMosaic.Lib.Pointwise

@[expose] public section

set_option maxRecDepth 16384

noncomputable section

namespace Cert.KernelIdeal.Hand

open Idealize.ShloMosaic Idealize.ShloMosaic.TcCoe Idealize.ShloMosaic.Tactic

/-- The side conditions of the precondition. -/
theorem pre_facts : Cert.Pre_finite_feat.Facts := ⟨by decide, by decide, by decide⟩

theorem infinity_value : Ideal.ofBits FTy.f32 0x7F800000#32 = (⊤ : EReal) := by
  simp [Ideal.ofBits, Ideal.ieee]

/-- An absolute value below infinity. -/
theorem finite_of_abs (x : EReal) (h : max x (-x) < ⊤) : x ≠ ⊤ ∧ x ≠ ⊥ := by
  constructor
  · rintro rfl
    simp at h
  · rintro rfl
    simp at h

theorem finite_of_fn (x0 : Vec Ideal S4x384x224x224 .f32) (x1 x3 : Vec Ideal S384x384 .f32) (x2 x4 : Vec Ideal S384 .f32)
    (h : letI := pre_facts; Cert.Pre_finite_feat.fn (F := Ideal) x0 x1 x2 x3 x4 = fun _ => 1#1) (i : S4x384x224x224.Idx) :
    (show S4x384x224x224.Idx → EReal from x0) i ≠ ⊤ ∧ (show S4x384x224x224.Idx → EReal from x0) i ≠ ⊥ := by
  letI := pre_facts
  have e := congrFun h (fun a => a.elim0)
  have : Subsingleton Cert.Pre_finite_feat.S_.Idx := ⟨fun a b => funext fun k => k.elim0⟩
  have e1 := Host.reduce_andi_all _ _ _ _ _ e i
  have e2 : BitVec.ofBool (decide (max ((show S4x384x224x224.Idx → EReal from x0) i) (-(show S4x384x224x224.Idx → EReal from x0) i)
      < Ideal.ofBits FTy.f32 0x7F800000#32)) = 1#1 := e1
  rw [infinity_value] at e2
  refine finite_of_abs _ ?_
  by_contra hn
  rw [decide_eq_false hn] at e2
  exact absurd e2 (by decide)

end Cert.KernelIdeal.Hand

end
-- ==== Proof.Printed.lean ====
/- The frame of the kernel as printed: its runs end with the arguments unchanged. Nothing is said of what the results
   hold, so each case of the body says only which buffers it writes. -/
module

public import proofs.«01_k».proof.Proof.Launch
public import proofs.«01_k».proof.Proof.Gen.Kernel.Frame
public import proofs.«01_k».proof.Proof.Gen.Kernel.Skeleton
public import Idealize.ShloMosaic.Lib.Exec
public import Idealize.ShloMosaic.Lib.Writes

@[expose] public section

set_option maxRecDepth 16384

noncomputable section

namespace Cert.Kernel.Hand

open Cert.Kernel.Gen
open Idealize.ShloMosaic Idealize.ShloMosaic.TcCoe Idealize.ShloMosaic.Tactic
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Hand (EndsAt run_named)

variable {F : FTy → Type} [FloatOps F]

local notation "𝕄" => MT nD τ sig Unit (Elt F) ℕ (UR sig nD τ) ℕ

/-! ## The branch conditions over the grid -/

/-- The first branch's condition: the inner coordinate is 0. -/
abbrev isFirst (i : grid0.Coords) : Prop := (Scalar.cmpi .ne (Scalar.extui (Scalar.cmpi .eq (BitVec.ofNat 32 (i 1).val) 0#32)) 0#32) = 1#1
/-- The second branch's condition: the inner coordinate is one of 1 to 7. -/
abbrev isAdding (i : grid0.Coords) : Prop := (Scalar.cmpi .ne (Scalar.extui (Scalar.andi (Scalar.cmpi .sgt (BitVec.ofNat 32 (i 1).val) 0#32) (Scalar.cmpi .slt (BitVec.ofNat 32 (i 1).val) 8#32))) 0#32) = 1#1

theorem isFirst_iff : ∀ t : Fin cfg0.N, isFirst (grid0.coords t) ↔ t.val % 16 = 0 :=
  (by decide +kernel : ∀ t : Fin grid0.N, isFirst (grid0.coords t) ↔ t.val % 16 = 0)
theorem isAdding_iff : ∀ t : Fin cfg0.N, isAdding (grid0.coords t) ↔ (1 ≤ t.val % 16 ∧ t.val % 16 ≤ 7) :=
  (by decide +kernel : ∀ t : Fin grid0.N, isAdding (grid0.coords t) ↔ (1 ≤ t.val % 16 ∧ t.val % 16 ≤ 7))
theorem isGate_iff : ∀ t : Fin cfg0.N, k0_cond3 (grid0.coords t) = 1#1 ↔ t.val % 16 = 8 :=
  (by decide +kernel : ∀ t : Fin grid0.N, k0_cond3 (grid0.coords t) = 1#1 ↔ t.val % 16 = 8)
theorem isApply_iff : ∀ t : Fin cfg0.N, k0_cond4 (grid0.coords t) = 1#1 ↔ 8 ≤ t.val % 16 :=
  (by decide +kernel : ∀ t : Fin grid0.N, k0_cond4 (grid0.coords t) = 1#1 ↔ 8 ≤ t.val % 16)

/-! ## The four cases -/

section Runs

variable (c : Dev nD) (i : grid0.Coords) (arg2 : Memref sig .tc .vmem S384x384 .f32) (harg2 : arg2.IsWhole) (arg3 : Memref sig .tc .vmem S384 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x28x224x384 .f32) (harg6 : arg6.IsWhole) (arg7 : Memref sig .tc .vmem S1x28x224x384 .f32) (harg7 : arg7.IsWhole) (arg8 : Memref sig .tc .vmem S1x28x224x384 .f32) (harg8 : arg8.IsWhole) (arg9 : Memref sig .tc .vmem S4x384 .f32) (harg9 : arg9.IsWhole) (arg10 : Memref sig .tc .vmem S4x384 .f32) (harg10 : arg10.IsWhole) (arg11 : Memref sig .tc .vmem S1x384 .f32) (harg11 : arg11.IsWhole) (arg12 : Memref sig .tc .vmem S1x384 .f32) (harg12 : arg12.IsWhole)

/-- The first point of a row writes the accumulator. -/
theorem run_first (hc0 : isFirst i) (hc1 : ¬isAdding i) (hc2 : ¬k0_cond3 i = 1#1) (hc3 : ¬k0_cond4 i = 1#1)
    (x4 : Vec F S1x28x224x384 .f32) (E : Set ℕ) (K : PUnit → sProp 𝕄) :
    iprop(owns (c : Thread nD τ) arg6 fullShare x4 ∗ (∃ d, owns (c : Thread nD τ) arg11 fullShare d)
        ∗ (iprop(owns (c : Thread nD τ) arg6 fullShare x4 ∗ (∃ d, owns (c : Thread nD τ) arg11 fullShare d)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  try simp only [k0_part1_eq_skeleton]
  unfold owns
  iintro ⟨⟨%f4, %hf4, H4⟩, ⟨%dS0, %fS0, -, HS0⟩, Hk⟩
  obtain rfl := harg6.eq_unread hf4
  sl_exec (disch := first | sl_exact hc0 | sl_exact hc1 | sl_exact hc2 | sl_exact hc3)
  sl_step
  iapply Hk
  isplitl [H4]
  · iexists _; isplitr; · ipureintro; exact harg6.read_unread _
    iexact H4
  iexists _; iexists _; isplitr; swap; · iexact HS0
  ipureintro; rfl

/-- The next seven write it too. -/
theorem run_add (hc0 : ¬isFirst i) (hc1 : isAdding i) (hc2 : ¬k0_cond3 i = 1#1) (hc3 : ¬k0_cond4 i = 1#1)
    (x4 : Vec F S1x28x224x384 .f32) (E : Set ℕ) (K : PUnit → sProp 𝕄) :
    iprop(owns (c : Thread nD τ) arg6 fullShare x4 ∗ (∃ d, owns (c : Thread nD τ) arg11 fullShare d)
        ∗ (iprop(owns (c : Thread nD τ) arg6 fullShare x4 ∗ (∃ d, owns (c : Thread nD τ) arg11 fullShare d)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  try simp only [k0_part1_eq_skeleton]
  unfold owns
  iintro ⟨⟨%f4, %hf4, H4⟩, ⟨%dS0, %fS0, -, HS0⟩, Hk⟩
  obtain rfl := harg6.eq_unread hf4
  sl_exec (disch := first | sl_exact hc0 | sl_exact hc1 | sl_exact hc2 | sl_exact hc3)
  sl_step
  iapply Hk
  isplitl [H4]
  · iexists _; isplitr; · ipureintro; exact harg6.read_unread _
    iexact H4
  iexists _; iexists _; isplitr; swap; · iexact HS0
  ipureintro; rfl

/-- The last seven write the two large results. -/
theorem run_apply (hc0 : ¬isFirst i) (hc1 : ¬isAdding i) (hc2 : ¬k0_cond3 i = 1#1) (hc3 : k0_cond4 i = 1#1)
    (x4 : Vec F S1x28x224x384 .f32) (E : Set ℕ) (K : PUnit → sProp 𝕄) :
    iprop(owns (c : Thread nD τ) arg6 fullShare x4 ∗ (∃ d, owns (c : Thread nD τ) arg7 fullShare d) ∗ (∃ d, owns (c : Thread nD τ) arg8 fullShare d) ∗ (∃ d, owns (c : Thread nD τ) arg12 fullShare d)
        ∗ (iprop(owns (c : Thread nD τ) arg6 fullShare x4 ∗ (∃ d, owns (c : Thread nD τ) arg7 fullShare d) ∗ (∃ d, owns (c : Thread nD τ) arg8 fullShare d) ∗ (∃ d, owns (c : Thread nD τ) arg12 fullShare d)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  try simp only [k0_part1_eq_skeleton]
  unfold owns
  iintro ⟨⟨%f4, %hf4, H4⟩, ⟨%d5, %f5, -, H5⟩, ⟨%d6, %f6, -, H6⟩, ⟨%dS1, %fS1, -, HS1⟩, Hk⟩
  obtain rfl := harg6.eq_unread hf4
  sl_exec (disch := first | sl_exact hc0 | sl_exact hc1 | sl_exact hc2 | sl_exact hc3)
  sl_step
  iapply Hk
  isplitl [H4]
  · iexists _; isplitr; · ipureintro; exact harg6.read_unread _
    iexact H4
  isplitl [H5]
  · iexists _; iexists _; isplitr; swap; · iexact H5
    ipureintro; rfl
  isplitl [H6]
  · iexists _; iexists _; isplitr; swap; · iexact H6
    ipureintro; rfl
  iexists _; iexists _; isplitr; swap; · iexact HS1
  ipureintro; rfl

set_option maxHeartbeats 1000000 in
/-- The ninth writes every result and the mask's scratch row. -/
theorem run_gate (hc0 : ¬isFirst i) (hc1 : ¬isAdding i) (hc2 : k0_cond3 i = 1#1) (hc3 : k0_cond4 i = 1#1)
    (x0 : Vec F S384x384 .f32) (x1 : Vec F S384 .f32) (x2 : Vec F S384x384 .f32) (x3 : Vec F S384 .f32) (x4 : Vec F S1x28x224x384 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  try simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%dS0, %fS0, -, HS0⟩, ⟨%dS1, %fS1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [HS0]
  · iexists _; iexists _; isplitr; swap; · iexact HS0
    ipureintro; rfl
  iexists _; iexists _; isplitr; swap; · iexact HS1
  ipureintro; rfl

end Runs

/-! ## The data -/

variable (m : (ℓ : Loc nD τ sig) → Buf (Elt F) ℓ) (ρ : Dev nD → PrngReg)

/-- The windows of the four results. -/
def fgt : Fin 9 → Bool := fun w => w.val == 5 || w.val == 6 || w.val == 7 || w.val == 8

/-- A result's staging buffer may hold anything. -/
def Rl (c : Dev nD) (w : Fin cfg0.W) (t : Fin cfg0.N) : ((cfg0.win w).block.Idx → Elt F (cfg0.win w).elt) → Prop := fun _ => True

abbrev scM0_0 : Memref sig .tc .vmem S1x384 .f32 := Memref.whole cc0_scratch0
abbrev scM0_1 : Memref sig .tc .vmem S1x384 .f32 := Memref.whole cc0_scratch1

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The relational data the launch runs on. -/
def rdats (c : Dev nD) : RDat τ (Elt F) Unit ℕ (UR sig nD τ) ℕ cfg0 c := (dats m 0 c).toRRel fgt (Rl c)

/-! ## The body's triple -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

abbrev ms0_0 (t : Fin cfg0.N) : Memref sig .tc .vmem S384x384 .f32 := win0_0.stage (cfg0.slots t 0)
abbrev ms0_1 (t : Fin cfg0.N) : Memref sig .tc .vmem S384 .f32 := win0_1.stage (cfg0.slots t 1)
abbrev ms0_2 (t : Fin cfg0.N) : Memref sig .tc .vmem S384x384 .f32 := win0_2.stage (cfg0.slots t 2)
abbrev ms0_3 (t : Fin cfg0.N) : Memref sig .tc .vmem S384 .f32 := win0_3.stage (cfg0.slots t 3)
abbrev ms0_4 (t : Fin cfg0.N) : Memref sig .tc .vmem S1x28x224x384 .f32 := win0_4.stage (cfg0.slots t 4)
abbrev ms0_5 (t : Fin cfg0.N) : Memref sig .tc .vmem S1x28x224x384 .f32 := win0_5.stage (cfg0.slots t 5)
abbrev ms0_6 (t : Fin cfg0.N) : Memref sig .tc .vmem S1x28x224x384 .f32 := win0_6.stage (cfg0.slots t 6)
abbrev ms0_7 (t : Fin cfg0.N) : Memref sig .tc .vmem S4x384 .f32 := win0_7.stage (cfg0.slots t 7)
abbrev ms0_8 (t : Fin cfg0.N) : Memref sig .tc .vmem S4x384 .f32 := win0_8.stage (cfg0.slots t 8)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdats m c).Finds 5 t Y⌝ ∗ owns (c : Thread nD τ) (ms0_5 t) fullShare Y)
    ∗ (∃ Y, ⌜(rdats m c).Finds 6 t Y⌝ ∗ owns (c : Thread nD τ) (ms0_6 t) fullShare Y)
    ∗ (∃ Y, ⌜(rdats m c).Finds 7 t Y⌝ ∗ owns (c : Thread nD τ) (ms0_7 t) fullShare Y)
    ∗ (∃ Y, ⌜(rdats m c).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl c 5 t X⌝ ∗ owns (c : Thread nD τ) (ms0_5 t) fullShare X)
    ∗ (∃ X, ⌜Rl c 6 t X⌝ ∗ owns (c : Thread nD τ) (ms0_6 t) fullShare X)
    ∗ (∃ X, ⌜Rl c 7 t X⌝ ∗ owns (c : Thread nD τ) (ms0_7 t) fullShare X)
    ∗ (∃ X, ⌜Rl c 8 t X⌝ ∗ owns (c : Thread nD τ) (ms0_8 t) fullShare X))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA0_eq]
  iintro ⟨⟨⟨⟨%a, HS0⟩, ⟨%s, HS1⟩⟩, Hg⟩, Ho, ⟨%d0, H0⟩, ⟨%d1, H1⟩, ⟨%d2, H2⟩, ⟨%d3, H3⟩, ⟨%d4, H4⟩, ⟨%Y5, -, H5⟩, ⟨%Y6, -, H6⟩, ⟨%Y7, -, H7⟩, ⟨%Y8, -, H8⟩⟩
  by_cases c0 : t.val % 16 = 0
  · have c1 : ¬(1 ≤ t.val % 16 ∧ t.val % 16 ≤ 7) := by omega
    have c2 : ¬t.val % 16 = 8 := by omega
    have c3 : ¬8 ≤ t.val % 16 := by omega
    iapply (run_first c (grid0.coords t) _ _ _ _ _ _ _ _ _ _ _ _ _ _ _ _ _ _ _ _ _ _ ((isFirst_iff t).mpr c0) (fun h => c1 ((isAdding_iff t).mp h)) (fun h => c2 ((isGate_iff t).mp h)) (fun h => c3 ((isApply_iff t).mp h)) (iblk m c 4 t) Set.univ _)
    isplitl [H4]; · iexact H4
    isplitl [HS0]; · iexists _; iexact HS0
    iintro ⟨H4, ⟨%eS0, HS0⟩⟩
    isplitl [HS0 HS1 Hg]
    · isplitr [Hg]; swap; · iexact Hg
      isplitl [HS0]; · iexists _; iexact HS0
      iexists _; iexact HS1
    isplitl [Ho]; · iexact Ho
    isplitl [H0]; · iexact H0
    isplitl [H1]; · iexact H1
    isplitl [H2]; · iexact H2
    isplitl [H3]; · iexact H3
    isplitl [H4]; · iexact H4
    isplitl [H5]; · iexists _; isplitr; swap; · iexact H5
                    ipureintro; trivial
    isplitl [H6]; · iexists _; isplitr; swap; · iexact H6
                    ipureintro; trivial
    isplitl [H7]; · iexists _; isplitr; swap; · iexact H7
                    ipureintro; trivial
    iexists _; isplitr; swap; · iexact H8
    ipureintro; trivial
  by_cases c1 : 1 ≤ t.val % 16 ∧ t.val % 16 ≤ 7
  · have c2 : ¬t.val % 16 = 8 := by omega
    have c3 : ¬8 ≤ t.val % 16 := by omega
    iapply (run_add c (grid0.coords t) _ _ _ _ _ _ _ _ _ _ _ _ _ _ _ _ _ _ _ _ _ _ (fun h => c0 ((isFirst_iff t).mp h)) ((isAdding_iff t).mpr c1) (fun h => c2 ((isGate_iff t).mp h)) (fun h => c3 ((isApply_iff t).mp h)) (iblk m c 4 t) Set.univ _)
    isplitl [H4]; · iexact H4
    isplitl [HS0]; · iexists _; iexact HS0
    iintro ⟨H4, ⟨%eS0, HS0⟩⟩
    isplitl [HS0 HS1 Hg]
    · isplitr [Hg]; swap; · iexact Hg
      isplitl [HS0]; · iexists _; iexact HS0
      iexists _; iexact HS1
    isplitl [Ho]; · iexact Ho
    isplitl [H0]; · iexact H0
    isplitl [H1]; · iexact H1
    isplitl [H2]; · iexact H2
    isplitl [H3]; · iexact H3
    isplitl [H4]; · iexact H4
    isplitl [H5]; · iexists _; isplitr; swap; · iexact H5
                    ipureintro; trivial
    isplitl [H6]; · iexists _; isplitr; swap; · iexact H6
                    ipureintro; trivial
    isplitl [H7]; · iexists _; isplitr; swap; · iexact H7
                    ipureintro; trivial
    iexists _; isplitr; swap; · iexact H8
    ipureintro; trivial
  have c3 : 8 ≤ t.val % 16 := by omega
  by_cases c2 : t.val % 16 = 8
  · iapply (run_gate c (grid0.coords t) _ _ _ _ _ _ _ _ _ _ _ _ _ _ _ _ _ _ _ _ _ _ (fun h => c0 ((isFirst_iff t).mp h)) (fun h => c1 ((isAdding_iff t).mp h)) ((isGate_iff t).mpr c2) ((isApply_iff t).mpr c3) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    iintro ⟨H0, H1, H2, H3, H4, ⟨%e5, H5⟩, ⟨%e6, H6⟩, ⟨%e7, H7⟩, ⟨%e8, H8⟩, ⟨%eS0, HS0⟩, ⟨%eS1, HS1⟩⟩
    isplitl [HS0 HS1 Hg]
    · isplitr [Hg]; swap; · iexact Hg
      isplitl [HS0]; · iexists _; iexact HS0
      iexists _; iexact HS1
    isplitl [Ho]; · iexact Ho
    isplitl [H0]; · iexact H0
    isplitl [H1]; · iexact H1
    isplitl [H2]; · iexact H2
    isplitl [H3]; · iexact H3
    isplitl [H4]; · iexact H4
    isplitl [H5]; · iexists _; isplitr; swap; · iexact H5
                    ipureintro; trivial
    isplitl [H6]; · iexists _; isplitr; swap; · iexact H6
                    ipureintro; trivial
    isplitl [H7]; · iexists _; isplitr; swap; · iexact H7
                    ipureintro; trivial
    iexists _; isplitr; swap; · iexact H8
    ipureintro; trivial
  · iapply (run_apply c (grid0.coords t) _ _ _ _ _ _ _ _ _ _ _ _ _ _ _ _ _ _ _ _ _ _ (fun h => c0 ((isFirst_iff t).mp h)) (fun h => c1 ((isAdding_iff t).mp h)) (fun h => c2 ((isGate_iff t).mp h)) ((isApply_iff t).mpr c3) (iblk m c 4 t) Set.univ _)
    isplitl [H4]; · iexact H4
    isplitl [H5]; · iexists _; iexact H5
    isplitl [H6]; · iexists _; iexact H6
    isplitl [HS1]; · iexists _; iexact HS1
    iintro ⟨H4, ⟨%e5, H5⟩, ⟨%e6, H6⟩, ⟨%eS1, HS1⟩⟩
    isplitl [HS0 HS1 Hg]
    · isplitr [Hg]; swap; · iexact Hg
      isplitl [HS0]; · iexists _; iexact HS0
      iexists _; iexact HS1
    isplitl [Ho]; · iexact Ho
    isplitl [H0]; · iexact H0
    isplitl [H1]; · iexact H1
    isplitl [H2]; · iexact H2
    isplitl [H3]; · iexact H3
    isplitl [H4]; · iexact H4
    isplitl [H5]; · iexists _; isplitr; swap; · iexact H5
                    ipureintro; trivial
    isplitl [H6]; · iexists _; isplitr; swap; · iexact H6
                    ipureintro; trivial
    isplitl [H7]; · iexists _; isplitr; swap; · iexact H7
                    ipureintro; trivial
    iexists _; isplitr; swap; · iexact H8
    ipureintro; trivial

/-! ## The launch and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ fgt (Rl c) := fun t => by
  rw [bigSep_W0, bigSep_W0, defs₀_row]
  exact triple_restated (sound_body m c t) rfl .rfl fun _ => .rfl

set_option backward.isDefEq.respectTransparency.types false in
set_option maxHeartbeats 800000 in
/-- Every final state of the kernel has its arrays at contents the data allow. -/
theorem run_ends : θ_run defs (onTc (τ := τ) (main (F := F))) (s₀ m ρ)
    (fun r => (∀ c, EndsAt cfgs 0 (rdats m) (V0 m) [hostOps1].flatten c r.2) ∧ r.2.sem = fun _ => 0) :=
  run_named cfgs 0 launch0 defs₀ Variants.none (rdats m) m ρ main
    (hbody := fun c => (body_obligation m c).toRRel) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := fun _ => .rfl)

/-- A buffer that no line writes and that is no array of the launch. -/
theorem tail_arg0 (c : Dev nD) (A) :
    StableHlo.after [hostOps1].flatten (Pipeline.withArrays (Val := Elt F) spec0 c (V0 m c) A) (Proc.devRef .tc main_arg0)
      = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem mem_rest (b : Ref sig .tc) (hs : b.isScoped = false) (ha : ∀ w, (spec0 w).arr.view.ref ≠ b) :
    b ∈ Pipeline.restRefsP sig Pipeline.Prefetch.none spec0 := by
  refine Finset.mem_sdiff.mpr ⟨Pipeline.mem_restRefs_of b hs ha, ?_⟩
  simp only [Finset.mem_image, not_exists]
  exact fun k => k.elim0

variable {m} in
/-- The contents of a buffer that the lines after the launch write. -/
theorem EndsAt.arr_in {c : Dev nD} {s} (h : EndsAt cfgs 0 (rdats m) (V0 m) [hostOps1].flatten c s) (w : Fin cfg0.W)
    (hw : (cfg0.win w).isOut = false) : s.mem ((cfg0.win w).arr.view.loc (c.tc : Thread nD τ)) = V m c (Pipeline.arrRef spec0 w) := by
  have h1 := h.1 w
  rw [RDat.ArrAt_in (rdats m c) w hw] at h1
  exact h1.trans (A_eq m c w)

variable {m} in
theorem EndsAt.args {c : Dev nD} {s} (h : EndsAt cfgs 0 (rdats m) (V0 m) [hostOps1].flatten c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) := by
  refine ⟨?_, (EndsAt.arr_in h 0 rfl).trans (V_main_arg1 m c), (EndsAt.arr_in h 1 rfl).trans (V_main_arg2 m c),
    (EndsAt.arr_in h 2 rfl).trans (V_main_arg3 m c), (EndsAt.arr_in h 3 rfl).trans (V_main_arg4 m c)⟩
  obtain ⟨A, -, hA⟩ := h.2
  exact (hA main_arg0 (mem_rest _ (by decide) (by decide))).trans (tail_arg0 m c A)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => EndsAt.args (h.1 c), h.2⟩) (run_ends m ρ)

end Cert.Kernel.Hand

end
-- ==== Proof.lean ====
/- The proof of the certificate's claims, assembled from the modules it imports. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ends
public import proofs.«01_k».proof.Proof.Arrays
public import proofs.«01_k».proof.Proof.Equation
public import proofs.«01_k».proof.Proof.Finite
public import proofs.«01_k».proof.Proof.Printed
public import Idealize.ShloMosaic.Adequacy
public import Idealize.ShloMosaic.Init

@[expose] public section

noncomputable section

namespace Cert.Proof

open Idealize.ShloMosaic Idealize.SL.Sem Cert.Kernel

/-- The reference is host operations on a machine with no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2.2, sem_eq_zero_of_no_sems rfl r.2⟩) (Cert.ReferenceIdeal.Value.run m g)

/-- The kernel's four results, at every final state. -/
theorem kernel_run (m : (ℓ : Loc Cert.KernelIdeal.nD Cert.KernelIdeal.τ Cert.KernelIdeal.sig) → Buf (Elt Ideal) ℓ)
    (g : Dev Cert.KernelIdeal.nD → PrngReg)
    (hf : ∀ c i, Cert.KernelIdeal.Hand.feat m c i ≠ ⊤ ∧ Cert.KernelIdeal.Hand.feat m c i ≠ ⊥) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2) = Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v3) = Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v4) = Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v1_2) = Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun _ h c => ⟨(Cert.KernelIdeal.Hand.EndsAt.v2 (h.1 c)).trans (Cert.KernelIdeal.Hand.causal_eq m c),
    (Cert.KernelIdeal.Hand.EndsAt.v3 (h.1 c)).trans (Cert.KernelIdeal.Hand.rest_eq m c (hf c)),
    (Cert.KernelIdeal.Hand.EndsAt.v4 (h.1 c)).trans (Cert.KernelIdeal.Hand.mask_eq m c),
    (Cert.KernelIdeal.Hand.EndsAt.v1_2 (h.1 c)).trans (Cert.KernelIdeal.Hand.softArr_eq m c),
    Cert.KernelIdeal.Hand.EndsAt.args (h.1 c)⟩) (Cert.KernelIdeal.Hand.run_ends m g)

/-- The kernel computes the reference. -/
theorem same_results : algebraic_KernelIdeal_ReferenceIdeal_pre_finite_feat (hKernelIdeal := Cert.KernelIdeal.Gen.facts)
    (hReferenceIdeal := Cert.ReferenceIdeal.Gen.facts) (hPre_finite_feat := Cert.KernelIdeal.Hand.pre_facts) := by
  intro m g m' g' hpre hagree
  refine ⟨_, _, _, _, kernel_run m g (fun c i => Cert.KernelIdeal.Hand.finite_of_fn _ _ _ _ _ (hpre c) i),
    (θ_run _ _ _).mono (fun r h c => ?_) (Cert.ReferenceIdeal.Value.run m' g')⟩
  obtain ⟨h42, h46, h40, h20, hargs⟩ := h c
  obtain ⟨a0, a1, a2, a3, a4⟩ := hagree c
  refine ⟨h42.trans ((Cert.ReferenceIdeal.Read.val_main_v42_eq m' c).trans ?_), h46.trans ((Cert.ReferenceIdeal.Read.val_main_v46_eq m' c).trans ?_),
    h40.trans ((Cert.ReferenceIdeal.Read.val_main_v40_eq m' c).trans ?_), h20.trans ((Cert.ReferenceIdeal.Read.val_main_v20_eq _ _ _ _ _).trans ?_), hargs⟩
  all_goals rw [a0, a1, a2, a3, a4]

/-- Everything that is claimed. -/
theorem claim : Cert.Claim :=
  ⟨Cert.Kernel.Gen.facts, Cert.KernelIdeal.Gen.facts, Cert.ReferenceIdeal.Gen.facts, Cert.KernelIdeal.Hand.pre_facts,
    fun m g _ => Cert.Kernel.Hand.frame m g, fun m g _ => Cert.KernelIdeal.Hand.frame m g, fun m g _ => Cert.KernelIdeal.Hand.frame m g,
    fun m g _ => reference_frame m g, fun m g _ => reference_frame m g,
    IdealRules.named_const.statement Cert.KernelIdeal.κ "inv_hw" .f32 0x37A72F05#32 ((50176⁻¹ : ℝ) : EReal) rfl,
    same_results⟩

end Cert.Proof

end
